-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![32768, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![8192, 1024]⟩ ⟨2, ![32768, 1024]⟩ 0 4 c (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S8192x1024 : Shape := ⟨2, ![8192, 1024]⟩
abbrev S32768x1024 : Shape := ⟨2, ![32768, 1024]⟩
abbrev S16 : Shape := ⟨1, ![16]⟩
abbrev S_ : Shape := ⟨0, ![]⟩
abbrev S3x8 : Shape := ⟨2, ![3, 8]⟩
abbrev S1 : Shape := ⟨1, ![1]⟩
abbrev S512x1024 : Shape := ⟨2, ![512, 1024]⟩
abbrev S1x1 : Shape := ⟨2, ![1, 1]⟩

abbrev nBuf : Space → Nat
  | .hbm => 2
  | .vmem => 2
  | .smem => 0
  | _ => 0

abbrev bufTy : (tb : Table) → Fin (tcTables nBuf tb) → BufTy
  | .hbm, ⟨0, _⟩ => ⟨S8192x1024, .f32⟩
  | .hbm, ⟨1, _⟩ => ⟨S32768x1024, .bf16⟩
  | .local _ .vmem, ⟨0, _⟩ => ⟨S8192x1024, .f32⟩
  | .local _ .vmem, ⟨1, _⟩ => ⟨S8192x1024, .bf16⟩
  | _, _ => ⟨S8192x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 113 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | _ => false

abbrev sig : RefSig :=
  (ofTc nBuf bufTy 1 113 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_57 : BitVec 32 := 1#32
  let v73 : BitVec 32 := Scalar.muli v5 c1_i32_57
  let v74 : BitVec 32 := Scalar.addi c0_i32_58 v73
  v74.toNat
def k0_dev2 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_60 : BitVec 32 := 1#32
  let v75 : BitVec 32 := Scalar.muli v7 c1_i32_60
  let v76 : BitVec 32 := Scalar.addi c0_i32_61 v75
  v76.toNat
def k0_off1 (d0 : Dev nD) (c0_i32_72 : BitVec 32) (c0_i32_74 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_71 : BitVec 32 := 4#32
  let v86 : BitVec 32 := Scalar.addi v2 c4_i32_71
  let v87 : BitVec 32 := Scalar.subi v86 c0_i32_72
  let c4_i32_73 : BitVec 32 := 4#32
  let v88 : BitVec 32 := Scalar.remsi v87 c4_i32_73
  let c8192_i32 : BitVec 32 := 8192#32
  let v89 : BitVec 32 := Scalar.muli v88 c8192_i32
  let v90 : BitVec 32 := Scalar.addi v89 c0_i32_74
  let c0_i32_81 : BitVec 32 := 0#32
  ![v90.toNat, 0]
def k0_dev3 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_79 : BitVec 32 := 1#32
  let v91 : BitVec 32 := Scalar.muli v7 c1_i32_79
  let v92 : BitVec 32 := Scalar.addi c0_i32_80 v91
  v92.toNat
def k0_off2 (d0 : Dev nD) (c0_i32_92 : BitVec 32) (c0_i32_96 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v108 : BitVec 32 := Scalar.addi v2 c0_i32_92
  let c4_i32_93 : BitVec 32 := 4#32
  let v109 : BitVec 32 := Scalar.remsi v108 c4_i32_93
  let c8192_i32_94 : BitVec 32 := 8192#32
  let v110 : BitVec 32 := Scalar.muli v109 c8192_i32_94
  let c4096_i32_95 : BitVec 32 := 4096#32
  let v111 : BitVec 32 := Scalar.addi v110 c4096_i32_95
  let v112 : BitVec 32 := Scalar.addi v111 c0_i32_96
  let c0_i32_103 : BitVec 32 := 0#32
  ![v112.toNat, 0]
def k0_dev4 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_101 : BitVec 32 := 1#32
  let v113 : BitVec 32 := Scalar.muli v5 c1_i32_101
  let v114 : BitVec 32 := Scalar.addi c0_i32_102 v113
  v114.toNat
def k0_dev5 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_123 : BitVec 32 := 1#32
  let v135 : BitVec 32 := Scalar.muli v7 c1_i32_123
  let v136 : BitVec 32 := Scalar.addi c0_i32_124 v135
  v136.toNat
def k0_dev6 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_145 : BitVec 32 := 1#32
  let v157 : BitVec 32 := Scalar.muli v5 c1_i32_145
  let v158 : BitVec 32 := Scalar.addi c0_i32_146 v157
  v158.toNat
def k0_dev7 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_167 : BitVec 32 := 1#32
  let v179 : BitVec 32 := Scalar.muli v7 c1_i32_167
  let v180 : BitVec 32 := Scalar.addi c0_i32_168 v179
  v180.toNat
def k0_dev8 (d0 : Dev nD) : Nat :=
  let c0_i32_190 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_189 : BitVec 32 := 1#32
  let v201 : BitVec 32 := Scalar.muli v5 c1_i32_189
  let v202 : BitVec 32 := Scalar.addi c0_i32_190 v201
  v202.toNat
def k0_dev9 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_211 : BitVec 32 := 1#32
  let v223 : BitVec 32 := Scalar.muli v7 c1_i32_211
  let v224 : BitVec 32 := Scalar.addi c0_i32_212 v223
  v224.toNat
def k0_dev10 (d0 : Dev nD) : Nat :=
  let c0_i32_234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_233 : BitVec 32 := 1#32
  let v245 : BitVec 32 := Scalar.muli v5 c1_i32_233
  let v246 : BitVec 32 := Scalar.addi c0_i32_234 v245
  v246.toNat
def k0_dev11 (d0 : Dev nD) : Nat :=
  let c0_i32_256 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_255 : BitVec 32 := 1#32
  let v267 : BitVec 32 := Scalar.muli v7 c1_i32_255
  let v268 : BitVec 32 := Scalar.addi c0_i32_256 v267
  v268.toNat
def k0_dev12 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_277 : BitVec 32 := 1#32
  let v289 : BitVec 32 := Scalar.muli v5 c1_i32_277
  let v290 : BitVec 32 := Scalar.addi c0_i32_278 v289
  v290.toNat
def k0_dev13 (d0 : Dev nD) : Nat :=
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_299 : BitVec 32 := 1#32
  let v311 : BitVec 32 := Scalar.muli v7 c1_i32_299
  let v312 : BitVec 32 := Scalar.addi c0_i32_300 v311
  v312.toNat
def k0_dev14 (d0 : Dev nD) : Nat :=
  let c0_i32_322 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_321 : BitVec 32 := 1#32
  let v333 : BitVec 32 := Scalar.muli v5 c1_i32_321
  let v334 : BitVec 32 := Scalar.addi c0_i32_322 v333
  v334.toNat
def k0_dev15 (d0 : Dev nD) : Nat :=
  let c0_i32_344 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_343 : BitVec 32 := 1#32
  let v355 : BitVec 32 := Scalar.muli v7 c1_i32_343
  let v356 : BitVec 32 := Scalar.addi c0_i32_344 v355
  v356.toNat
def k0_dev16 (d0 : Dev nD) : Nat :=
  let c0_i32_366 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_365 : BitVec 32 := 1#32
  let v377 : BitVec 32 := Scalar.muli v5 c1_i32_365
  let v378 : BitVec 32 := Scalar.addi c0_i32_366 v377
  v378.toNat
def k0_dev17 (d0 : Dev nD) : Nat :=
  let c0_i32_388 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_387 : BitVec 32 := 1#32
  let v399 : BitVec 32 := Scalar.muli v7 c1_i32_387
  let v400 : BitVec 32 := Scalar.addi c0_i32_388 v399
  v400.toNat
def k0_dev18 (d0 : Dev nD) : Nat :=
  let c0_i32_410 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_409 : BitVec 32 := 1#32
  let v421 : BitVec 32 := Scalar.muli v5 c1_i32_409
  let v422 : BitVec 32 := Scalar.addi c0_i32_410 v421
  v422.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_414 : BitVec 32 := 8192#32
  let v429 : BitVec 32 := Scalar.muli v2 c8192_i32_414
  let c0_i32_415 : BitVec 32 := 0#32
  ![v429.toNat, 0]
def k0_dev19 (d0 : Dev nD) : Nat :=
  let c0_i32_435 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_434 : BitVec 32 := 1#32
  let v442 : BitVec 32 := Scalar.muli v7 c1_i32_434
  let v443 : BitVec 32 := Scalar.addi c0_i32_435 v442
  v443.toNat
def k0_dev20 (d0 : Dev nD) : Nat :=
  let c0_i32_457 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_456 : BitVec 32 := 1#32
  let v461 : BitVec 32 := Scalar.muli v5 c1_i32_456
  let v462 : BitVec 32 := Scalar.addi c0_i32_457 v461
  v462.toNat
def k0_dev21 (d0 : Dev nD) : Nat :=
  let c0_i32_479 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_478 : BitVec 32 := 1#32
  let v480 : BitVec 32 := Scalar.muli v7 c1_i32_478
  let v481 : BitVec 32 := Scalar.addi c0_i32_479 v480
  v481.toNat
def k0_dev22 (d0 : Dev nD) : Nat :=
  let c0_i32_501 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_500 : BitVec 32 := 1#32
  let v499 : BitVec 32 := Scalar.muli v5 c1_i32_500
  let v500 : BitVec 32 := Scalar.addi c0_i32_501 v499
  v500.toNat
def k0_dev23 (d0 : Dev nD) : Nat :=
  let c0_i32_523 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_522 : BitVec 32 := 1#32
  let v518 : BitVec 32 := Scalar.muli v7 c1_i32_522
  let v519 : BitVec 32 := Scalar.addi c0_i32_523 v518
  v519.toNat
def k0_dev24 (d0 : Dev nD) : Nat :=
  let c0_i32_545 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_544 : BitVec 32 := 1#32
  let v537 : BitVec 32 := Scalar.muli v5 c1_i32_544
  let v538 : BitVec 32 := Scalar.addi c0_i32_545 v537
  v538.toNat
def k0_dev25 (d0 : Dev nD) : Nat :=
  let c0_i32_567 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_566 : BitVec 32 := 1#32
  let v556 : BitVec 32 := Scalar.muli v7 c1_i32_566
  let v557 : BitVec 32 := Scalar.addi c0_i32_567 v556
  v557.toNat
def k0_dev26 (d0 : Dev nD) : Nat :=
  let c0_i32_589 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_588 : BitVec 32 := 1#32
  let v575 : BitVec 32 := Scalar.muli v5 c1_i32_588
  let v576 : BitVec 32 := Scalar.addi c0_i32_589 v575
  v576.toNat
def k0_dev27 (d0 : Dev nD) : Nat :=
  let c0_i32_611 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_610 : BitVec 32 := 1#32
  let v594 : BitVec 32 := Scalar.muli v7 c1_i32_610
  let v595 : BitVec 32 := Scalar.addi c0_i32_611 v594
  v595.toNat
def k0_dev28 (d0 : Dev nD) : Nat :=
  let c0_i32_633 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_632 : BitVec 32 := 1#32
  let v613 : BitVec 32 := Scalar.muli v5 c1_i32_632
  let v614 : BitVec 32 := Scalar.addi c0_i32_633 v613
  v614.toNat
def k0_dev29 (d0 : Dev nD) : Nat :=
  let c0_i32_655 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_654 : BitVec 32 := 1#32
  let v632 : BitVec 32 := Scalar.muli v7 c1_i32_654
  let v633 : BitVec 32 := Scalar.addi c0_i32_655 v632
  v633.toNat
def k0_dev30 (d0 : Dev nD) : Nat :=
  let c0_i32_677 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_676 : BitVec 32 := 1#32
  let v651 : BitVec 32 := Scalar.muli v5 c1_i32_676
  let v652 : BitVec 32 := Scalar.addi c0_i32_677 v651
  v652.toNat
def k0_dev31 (d0 : Dev nD) : Nat :=
  let c0_i32_699 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_698 : BitVec 32 := 1#32
  let v670 : BitVec 32 := Scalar.muli v7 c1_i32_698
  let v671 : BitVec 32 := Scalar.addi c0_i32_699 v670
  v671.toNat
def k0_dev32 (d0 : Dev nD) : Nat :=
  let c0_i32_721 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_720 : BitVec 32 := 1#32
  let v689 : BitVec 32 := Scalar.muli v5 c1_i32_720
  let v690 : BitVec 32 := Scalar.addi c0_i32_721 v689
  v690.toNat
def k0_dev33 (d0 : Dev nD) : Nat :=
  let c0_i32_743 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_742 : BitVec 32 := 1#32
  let v708 : BitVec 32 := Scalar.muli v7 c1_i32_742
  let v709 : BitVec 32 := Scalar.addi c0_i32_743 v708
  v709.toNat
def k0_dev34 (d0 : Dev nD) : Nat :=
  let c0_i32_765 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_764 : BitVec 32 := 1#32
  let v727 : BitVec 32 := Scalar.muli v5 c1_i32_764
  let v728 : BitVec 32 := Scalar.addi c0_i32_765 v727
  v728.toNat
def k0_dev35 (d0 : Dev nD) : Nat :=
  let c0_i32_786 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_785 : BitVec 32 := 1#32
  let v746 : BitVec 32 := Scalar.muli v7 c1_i32_785
  let v747 : BitVec 32 := Scalar.addi c0_i32_786 v746
  v747.toNat
def k0_dev36 (d0 : Dev nD) : Nat :=
  let c0_i32_807 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_806 : BitVec 32 := 1#32
  let v765 : BitVec 32 := Scalar.muli v5 c1_i32_806
  let v766 : BitVec 32 := Scalar.addi c0_i32_807 v765
  v766.toNat
def k0_dev37 (d0 : Dev nD) : Nat :=
  let c0_i32_828 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_827 : BitVec 32 := 1#32
  let v784 : BitVec 32 := Scalar.muli v7 c1_i32_827
  let v785 : BitVec 32 := Scalar.addi c0_i32_828 v784
  v785.toNat
def k0_dev38 (d0 : Dev nD) : Nat :=
  let c0_i32_849 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_848 : BitVec 32 := 1#32
  let v803 : BitVec 32 := Scalar.muli v5 c1_i32_848
  let v804 : BitVec 32 := Scalar.addi c0_i32_849 v803
  v804.toNat
def k0_dev39 (d0 : Dev nD) : Nat :=
  let c0_i32_870 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_869 : BitVec 32 := 1#32
  let v822 : BitVec 32 := Scalar.muli v7 c1_i32_869
  let v823 : BitVec 32 := Scalar.addi c0_i32_870 v822
  v823.toNat
def k0_dev40 (d0 : Dev nD) : Nat :=
  let c0_i32_891 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_890 : BitVec 32 := 1#32
  let v841 : BitVec 32 := Scalar.muli v5 c1_i32_890
  let v842 : BitVec 32 := Scalar.addi c0_i32_891 v841
  v842.toNat
def k0_dev41 (d0 : Dev nD) : Nat :=
  let c0_i32_912 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_911 : BitVec 32 := 1#32
  let v860 : BitVec 32 := Scalar.muli v7 c1_i32_911
  let v861 : BitVec 32 := Scalar.addi c0_i32_912 v860
  v861.toNat
def k0_dev42 (d0 : Dev nD) : Nat :=
  let c0_i32_933 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_932 : BitVec 32 := 1#32
  let v879 : BitVec 32 := Scalar.muli v5 c1_i32_932
  let v880 : BitVec 32 := Scalar.addi c0_i32_933 v879
  v880.toNat
def k0_dev43 (d0 : Dev nD) : Nat :=
  let c0_i32_954 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_953 : BitVec 32 := 1#32
  let v898 : BitVec 32 := Scalar.muli v7 c1_i32_953
  let v899 : BitVec 32 := Scalar.addi c0_i32_954 v898
  v899.toNat
def k0_dev44 (d0 : Dev nD) : Nat :=
  let c0_i32_975 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_974 : BitVec 32 := 1#32
  let v917 : BitVec 32 := Scalar.muli v5 c1_i32_974
  let v918 : BitVec 32 := Scalar.addi c0_i32_975 v917
  v918.toNat
def k0_dev45 (d0 : Dev nD) : Nat :=
  let c0_i32_996 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_995 : BitVec 32 := 1#32
  let v936 : BitVec 32 := Scalar.muli v7 c1_i32_995
  let v937 : BitVec 32 := Scalar.addi c0_i32_996 v936
  v937.toNat
def k0_dev46 (d0 : Dev nD) : Nat :=
  let c0_i32_1017 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1016 : BitVec 32 := 1#32
  let v955 : BitVec 32 := Scalar.muli v5 c1_i32_1016
  let v956 : BitVec 32 := Scalar.addi c0_i32_1017 v955
  v956.toNat
def k0_dev47 (d0 : Dev nD) : Nat :=
  let c0_i32_1038 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1037 : BitVec 32 := 1#32
  let v974 : BitVec 32 := Scalar.muli v7 c1_i32_1037
  let v975 : BitVec 32 := Scalar.addi c0_i32_1038 v974
  v975.toNat
def k0_dev48 (d0 : Dev nD) : Nat :=
  let c0_i32_1059 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1058 : BitVec 32 := 1#32
  let v993 : BitVec 32 := Scalar.muli v5 c1_i32_1058
  let v994 : BitVec 32 := Scalar.addi c0_i32_1059 v993
  v994.toNat
def k0_dev49 (d0 : Dev nD) : Nat :=
  let c0_i32_1080 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1079 : BitVec 32 := 1#32
  let v1012 : BitVec 32 := Scalar.muli v7 c1_i32_1079
  let v1013 : BitVec 32 := Scalar.addi c0_i32_1080 v1012
  v1013.toNat
def k0_dev50 (d0 : Dev nD) : Nat :=
  let c0_i32_1101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1100 : BitVec 32 := 1#32
  let v1031 : BitVec 32 := Scalar.muli v5 c1_i32_1100
  let v1032 : BitVec 32 := Scalar.addi c0_i32_1101 v1031
  v1032.toNat
-- ==== Reference.lean ====
abbrev S32768x1024 : Shape := ⟨2, ![32768, 1024]⟩

abbrev nBuf : Space → Nat
  | .hbm => 2
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Steps.lean ====
/- The kernel's body as loops. The printed body lists its operations one after another; here they are the instances of
   six steps — start one staged copy, the barrier, stage one chunk and send it, receive one chunk and forward it, wait
   for one transfer, copy the own block out — run over the chunks in the order the kernel visits them. `body_eq` says
   the printed body is that program. -/
module

public import proofs.«01_k».proof.Proof.Gen.KernelIdeal.Skeleton
public import proofs.«01_k».proof.Proof.Gen.KernelIdeal.Points

@[expose] public section

noncomputable section

namespace Cert.Gather

open Idealize.ShloMosaic Idealize.ShloMosaic.TcCoe Idealize.SL.Sem
open Cert.KernelIdeal Cert.KernelIdeal.Gen

variable {F : FTy → Type} [FloatOps F]

/-- Programs over the kernel's operations. -/
local notation "ℙ" => Prog (TpuEff nD τ sig (Elt F) Λ₀ Proc.tc)

/-- A chunk: its direction round the ring (`false` clockwise, `true` counterclockwise) and its place in its half of
    the block. -/
abbrev Ch : Type := Bool × Fin 8

/-- The first row of a chunk within a device's block. -/
def row (i : Ch) : ℕ := 512 * i.2.val + (bif i.1 then 4096 else 0)

/-- A chunk lies in the block. -/
theorem row_inb (i : Ch) : ∀ a, (![row i, 0] : Fin 2 → ℕ) a + S512x1024.size a ≤ S8192x1024.size a := by
  revert i; decide

/-- The rows of a chunk within a device's block. -/
def chunkRect (i : Ch) : Rect S8192x1024 := Rect.unit (s := S8192x1024) ![row i, 0] S512x1024.size (row_inb i)

/-- A chunk is whole words, -/
theorem chunk_words (i : Ch) : (Rect.unit (s := S8192x1024) ![row i, 0] S512x1024.size (row_inb i)).WholeWords (EltTy.packing .bf16) := by
  revert i; decide

/-- and whole packed rows. -/
theorem chunk_packed (i : Ch) : (Rect.unit (s := S8192x1024) ![row i, 0] S512x1024.size (row_inb i)).PackedRows (EltTy.packing .bf16) := by
  revert i; decide

/-- Where a chunk sent by device `c` at hop `h` lies in the result, as the kernel computes it. -/
def off (c : Dev nD) (h : Fin 3) : Ch → Fin 2 → ℕ
  | (false, q) => k0_off1 c (BitVec.ofNat 32 h.val) (BitVec.ofNat 32 (512 * q.val))
  | (true, q) => k0_off2 c (BitVec.ofNat 32 h.val) (BitVec.ofNat 32 (512 * q.val))

/-- The rows sent lie in the result, -/
theorem off_inb (c : Dev nD) (h : Fin 3) : ∀ (i : Ch) (a), off c h i a + S512x1024.size a ≤ S32768x1024.size a
  | (false, q) => k0_off1_inb c h q
  | (true, q) => k0_off2_inb c h q

/-- and are whole words. -/
theorem off_words (c : Dev nD) (h : Fin 3) :
    ∀ i : Ch, (Rect.unit (s := S32768x1024) (off c h i) S512x1024.size (off_inb c h i)).WholeWords (EltTy.packing .bf16)
  | (false, q) => k0_off1_wordsbf16 c h q
  | (true, q) => k0_off2_wordsbf16 c h q

/-! ## The views -/

/-- The argument, -/
abbrev xM : Memref sig .tc .hbm S8192x1024 .f32 := Memref.whole main_arg0
/-- the result, -/
abbrev oM : Memref sig .tc .hbm S32768x1024 .bf16 := Memref.whole main_v1
/-- the staging buffer, -/
abbrev sM : Memref sig .tc .vmem S8192x1024 .f32 := Memref.whole cc0_scratch0
/-- and the truncated buffer. -/
abbrev bM : Memref sig .tc .vmem S8192x1024 .bf16 := Memref.whole cc0_scratch1

/-- The chunk of the argument. -/
abbrev xC (i : Ch) : Memref sig .tc .hbm S512x1024 .f32 :=
  xM.slice (Rect.unit (s := S8192x1024) ![row i, 0] S512x1024.size (row_inb i)) (fun _ => rfl)
/-- The chunk of the staging buffer. -/
abbrev sC (i : Ch) : Memref sig .tc .vmem S512x1024 .f32 :=
  sM.slice (Rect.unit (s := S8192x1024) ![row i, 0] S512x1024.size (row_inb i)) (fun _ => rfl)
/-- The chunk of the truncated block. -/
abbrev bC (i : Ch) : Memref sig .tc .vmem S512x1024 .bf16 :=
  bM.slice (Rect.unit (s := S8192x1024) ![row i, 0] S512x1024.size (row_inb i)) (fun _ => rfl)
/-- The chunk of the result that device `c` sends at hop `h`. -/
abbrev oC (c : Dev nD) (h : Fin 3) (i : Ch) : Memref sig .tc .hbm S512x1024 .bf16 :=
  oM.slice (Rect.unit (s := S32768x1024) (off c h i) S512x1024.size (off_inb c h i)) (fun _ => rfl)
/-- Device `c`'s own block of the result. -/
abbrev oOwn (c : Dev nD) : Memref sig .tc .hbm S8192x1024 .bf16 :=
  oM.slice (Rect.unit (s := S32768x1024) (k0_off3 c) S8192x1024.size (k0_off3_inb c)) (fun _ => rfl)

/-- A truncated chunk is whole words, -/
theorem bC_words (i : Ch) : (bC i).view.WordExact := (Memref.isWhole_whole _).wordExact_slice rfl _ (chunk_words i)
/-- so is a piece of the result. -/
theorem oC_words (c : Dev nD) (h : Fin 3) (i : Ch) : (oC c h i).view.WordExact :=
  (Memref.isWhole_whole _).wordExact_slice rfl _ (off_words c h i)

/-! ## The semaphores -/

/-- A staged copy's semaphore is one of the sixteen, -/
theorem in_inb (i : Ch) : ∀ a, (![2 * i.2.val + i.1.toNat] : Fin 1 → ℕ) a + S1.size a ≤ S16.size a := by
  revert i; decide
/-- a hop's one of its three by eight. -/
theorem hop_inb (h : Fin 3) (q : Fin 8) : ∀ a, (![h.val, q.val] : Fin 2 → ℕ) a + S1x1.size a ≤ S3x8.size a := by
  revert h q; decide

/-- The semaphore of a chunk's staged copy. -/
def inS (i : Ch) : DmaSem sig :=
  ((cc0_scratch2.slice (Rect.unit (s := S16) ![2 * i.2.val + i.1.toNat] S1.size (in_inb i))).squeeze S_ squeezes_S1_S_).sem
/-- The semaphore of the copy of the own block. -/
abbrev cpS : DmaSem sig := cc0_scratch3.sem
/-- The semaphore a hop's send completes on at its source, -/
def sendS (h : Fin 3) : Ch → DmaSem sig
  | (false, q) => ((cc0_scratch4.slice (Rect.unit (s := S3x8) ![h.val, q.val] S1x1.size (hop_inb h q))).squeeze S_ squeezes_S1x1_S_).sem
  | (true, q) => ((cc0_scratch6.slice (Rect.unit (s := S3x8) ![h.val, q.val] S1x1.size (hop_inb h q))).squeeze S_ squeezes_S1x1_S_).sem
/-- and at its target. -/
def recvS (h : Fin 3) : Ch → DmaSem sig
  | (false, q) => ((cc0_scratch5.slice (Rect.unit (s := S3x8) ![h.val, q.val] S1x1.size (hop_inb h q))).squeeze S_ squeezes_S1x1_S_).sem
  | (true, q) => ((cc0_scratch7.slice (Rect.unit (s := S3x8) ![h.val, q.val] S1x1.size (hop_inb h q))).squeeze S_ squeezes_S1x1_S_).sem
/-- The barrier's semaphore. -/
abbrev barS : Sem sig := sig.barrier 0 rfl

/-- The neighbour a chunk's direction sends to. -/
def nbr (c : Dev nD) : Bool → Dev nD
  | false => ⟨k0_dev2 c, k0_dev2_lt c⟩
  | true => ⟨k0_dev1 c, k0_dev1_lt c⟩

/-! ## The steps -/

/-- Run the steps `f` along a list. -/
def runL {ι : Type} (f : ι → ℙ PUnit) : List ι → ℙ PUnit
  | [] => .ret ⟨⟩
  | i :: l => f i >>= fun _ => runL f l

/-- Start the staged copy of a chunk. -/
def copyIn (i : Ch) : ℙ PUnit :=
  Prog.lift (.enqueueDma (xC i) (.here (sC i)) (.dma (inS i)) (View.wordExact_bits rfl) (View.wordExact_bits rfl) ⟨Or.inl rfl, trivial⟩)

/-- Tell both neighbours that this device is here, and wait for both. -/
def barrier (c : Dev nD) : ℙ PUnit := do
  semSignalWord (nbr c true) barS 1#32
  semSignalWord (nbr c false) barS 1#32
  semWaitWord barS 2#32

/-- The truncation of a chunk. -/
def trunc (v : Vec F S512x1024 .f32) : FVec F S512x1024 .bf16 :=
  shapeCast S512x1024 (truncf .bf16 v bitsLt_bf16_f32) shapeCasts_S512x1024_S512x1024

/-- Wait for a chunk's staged copy, truncate it into the own block, and send it on its first hop. -/
def stage (c : Dev nD) (i : Ch) : ℙ PUnit := do
  Prog.lift (.waitDma2 (inS i) (xC i) (sC i) (View.wordExact_bits rfl) (View.wordExact_bits rfl))
  let v : Vec F S512x1024 .f32 ← Prog.lift (.load sM (Rect.unit (s := S8192x1024) ![row i, 0] S512x1024.size (row_inb i)).toLoadRect (View.loadsAt_vmem h_S512x1024))
  let _ : Vec F S512x1024 .bf16 ← Prog.lift (.load bM (Rect.unit (s := S8192x1024) ![row i, 0] S512x1024.size (row_inb i)).toLoadRect (View.loadsAt_vmem h_S512x1024))
  Prog.lift (.store bM (Rect.unit (s := S8192x1024) ![row i, 0] S512x1024.size (row_inb i)) (trunc v) Finset.univ (View.stores_vmem h_S512x1024 ((Memref.isWhole_whole _).storeExact_slice rfl _ (chunk_packed i)) (fun _ => rfl)) (.inl rfl))
  Prog.lift (.enqueueDma (bC i) (.remote (Dev.tc (nbr c i.1)) (oC c 0 i) (.dma (sendS 0 i))) (.dma (recvS 0 i)) (bC_words i) (oC_words c 0 i) ⟨⟨rfl, Or.inl rfl⟩, trivial⟩)

/-- Start the copy of the own block into the result. -/
def copyOut (c : Dev nD) : ℙ PUnit :=
  Prog.lift (.enqueueDma bM (.here (oOwn c)) (.dma cpS) (Memref.isWhole_whole _).wordExact ((Memref.isWhole_whole _).wordExact_slice rfl _ (k0_off3_wordsbf16 c)) ⟨Or.inl rfl, trivial⟩)

/-- Wait for the chunk arriving on its first hop. -/
def recvFirst (c : Dev nD) (i : Ch) : ℙ PUnit :=
  Prog.lift (.waitDma2 (recvS 0 i) (bC i) (oC c 0 i) (bC_words i) (oC_words c 0 i))

/-- Wait for the chunk arriving on hop `h`. -/
def recvNext (c : Dev nD) (h : Fin 3) (i : Ch) : ℙ PUnit :=
  Prog.lift (.waitDma2 (recvS h i) (oC c h i) (oC c h i) (oC_words c h i) (oC_words c h i))

/-- Send a received chunk on, at hop `h`. -/
def forward (c : Dev nD) (h : Fin 3) (i : Ch) : ℙ PUnit :=
  Prog.lift (.enqueueDma (oC c h i) (.remote (Dev.tc (nbr c i.1)) (oC c h i) (.dma (sendS h i))) (.dma (recvS h i)) (oC_words c h i) (oC_words c h i) ⟨⟨rfl, Or.inl rfl⟩, trivial⟩)

/-- Wait for the first hop's send of a chunk to have left. -/
def sentFirst (c : Dev nD) (i : Ch) : ℙ PUnit :=
  Prog.lift (.waitDma2 (sendS 0 i) (oC c 0 i) (bC i) (oC_words c 0 i) (bC_words i))

/-- Wait for hop `h`'s send of a chunk to have left. -/
def sentNext (c : Dev nD) (h : Fin 3) (i : Ch) : ℙ PUnit :=
  Prog.lift (.waitDma2 (sendS h i) (oC c h i) (oC c h i) (oC_words c h i) (oC_words c h i))

/-- Wait for the copy of the own block. -/
def copyOutDone (c : Dev nD) : ℙ PUnit :=
  Prog.lift (.waitDma2 cpS bM (oOwn c) (Memref.isWhole_whole _).wordExact ((Memref.isWhole_whole _).wordExact_slice rfl _ (k0_off3_wordsbf16 c)))

/-- The chunks, place by place, both directions at each place: the order of staging and forwarding. -/
def byPlace : List Ch :=
  [(false, 0), (true, 0), (false, 1), (true, 1), (false, 2), (true, 2), (false, 3), (true, 3),
   (false, 4), (true, 4), (false, 5), (true, 5), (false, 6), (true, 6), (false, 7), (true, 7)]

/-- The chunks, direction by direction: the order of the last waits. -/
def byDir : List Ch :=
  [(false, 0), (false, 1), (false, 2), (false, 3), (false, 4), (false, 5), (false, 6), (false, 7),
   (true, 0), (true, 1), (true, 2), (true, 3), (true, 4), (true, 5), (true, 6), (true, 7)]

/-- The body as loops over the chunks. -/
def body : ℙ PUnit := do
  let c : Dev nD ← Prog.lift .deviceId
  runL copyIn byPlace
  barrier c
  runL (stage c) byPlace
  copyOut c
  runL (fun i => do recvFirst c i; forward c 1 i) byPlace
  runL (fun i => do recvNext c 1 i; forward c 2 i) byPlace
  runL (recvNext c 2) byPlace
  runL (sentFirst c) byDir
  runL (sentNext c 1) byDir
  runL (sentNext c 2) byDir
  copyOutDone c

end Cert.Gather

end
-- ==== Proof.Geo.lean ====
/- Where the chunks lie. The result's rows fall in 64 runs of 512 rows: device `o`'s half `d` holds runs
   `16 o + 8 d` to `16 o + 8 d + 7`. A device's own block and the 48 chunks its neighbours send it cut the whole result;
   the 16 chunks of a block cut the block. -/
module

public import proofs.«01_k».proof.Proof.Steps
public import Idealize.ShloMosaic.Lib.Ring
public import Idealize.ShloMosaic.Lib.Pipeline.Value
public import Idealize.ShloMosaic.Lib.Pipeline.ValueKit.Geometry
public import Idealize.ShloMosaic.Lib.Pointwise.Index

@[expose] public section

noncomputable section

namespace Cert.Gather

open Idealize.ShloMosaic Idealize.ShloMosaic.TcCoe Idealize.SL.Sem
open Cert.KernelIdeal Cert.KernelIdeal.Gen

/-! ## The ring -/

/-- Directions sent against each other: the neighbour a direction receives from. -/
abbrev src (c : Dev nD) (d : Bool) : Dev nD := nbr c (!d)

/-- A device sends to the one that receives from it, -/
theorem nbr_src (c : Dev nD) (d : Bool) : nbr (src c d) d = c := by revert c d; decide +kernel
/-- and receives from the one that sends to it. -/
theorem src_nbr (c : Dev nD) (d : Bool) : src (nbr c d) d = c := by revert c d; decide +kernel

/-- Sending in direction `d` as a permutation of the devices. -/
def turn (d : Bool) : Dev nD ≃ Dev nD := ⟨fun c => nbr c d, fun c => src c d, fun c => src_nbr c d, fun c => nbr_src c d⟩

/-- The device whose rows `c` sends at hop `h` in direction `d`. -/
def org (c : Dev nD) (h : Fin 3) (d : Bool) : Fin 4 := ⟨(c.val + bif d then h.val else 4 - h.val) % 4, Nat.mod_lt _ (by decide)⟩

/-- The rows that a device sends: the origin's block, and the chunk in it. -/
theorem off_eq (c : Dev nD) (h : Fin 3) (i : Ch) : off c h i = ![8192 * (org c h i.1).val + row i, 0] := by
  funext a; revert c h i a; decide +kernel

/-- A device's own block begins at its own rows. -/
theorem off3_eq (c : Dev nD) : k0_off3 c = ![8192 * c.val, 0] := by
  funext a; revert c a; decide +kernel

/-- At hop zero a device sends its own rows; -/
theorem org_zero (c : Dev nD) (d : Bool) : (org c 0 d).val = c.val := by revert c d; decide +kernel

/-- a chunk received at one hop is the chunk sent at the next. -/
theorem off_next (c : Dev nD) (h : Fin 2) (i : Ch) : off (nbr c i.1) h.succ i = off c h.castSucc i := by
  rw [off_eq, off_eq]
  have : org (nbr c i.1) h.succ i.1 = org c h.castSucc i.1 := by
    generalize i.1 = d; revert c h d; decide +kernel
  rw [this]

/-- The rows received at a hop, as a piece of the result, are those sent at the next. -/
theorem oC_next (c : Dev nD) (h : Fin 2) (i : Ch) : oC (nbr c i.1) h.succ i = oC c h.castSucc i := by
  have e := off_next c h i
  have key : ∀ (o o' : Fin 2 → ℕ) (p : ∀ a, o a + S512x1024.size a ≤ S32768x1024.size a)
      (p' : ∀ a, o' a + S512x1024.size a ≤ S32768x1024.size a), o = o' →
      oM.slice (Rect.unit (s := S32768x1024) o S512x1024.size p) (fun _ => rfl)
        = oM.slice (Rect.unit (s := S32768x1024) o' S512x1024.size p') (fun _ => rfl) := by
    intro o o' p p' h; subst h; rfl
  exact key _ _ _ _ e

/-! ## Elements under the views -/

/-- A place in a chunk of the argument, in the block; -/
theorem xC_emb (i : Ch) (j : S512x1024.Idx) (a : Fin 2) : ((xC i).view.emb j a).val = (![row i, 0] : Fin 2 → ℕ) a + (j a).val :=
  ValueKit.view_emb_slice_whole_unit_val main_arg0 ![row i, 0] S512x1024.size (row_inb i) j a
/-- of the staged block, -/
theorem sC_emb (i : Ch) (j : S512x1024.Idx) (a : Fin 2) : ((sC i).view.emb j a).val = (![row i, 0] : Fin 2 → ℕ) a + (j a).val :=
  ValueKit.view_emb_slice_whole_unit_val cc0_scratch0 ![row i, 0] S512x1024.size (row_inb i) j a
/-- of the truncated block, -/
theorem bC_emb (i : Ch) (j : S512x1024.Idx) (a : Fin 2) : ((bC i).view.emb j a).val = (![row i, 0] : Fin 2 → ℕ) a + (j a).val :=
  ValueKit.view_emb_slice_whole_unit_val cc0_scratch1 ![row i, 0] S512x1024.size (row_inb i) j a
/-- of a piece of the result, -/
theorem oC_emb (c : Dev nD) (h : Fin 3) (i : Ch) (j : S512x1024.Idx) (a : Fin 2) :
    ((oC c h i).view.emb j a).val = off c h i a + (j a).val :=
  ValueKit.view_emb_slice_whole_unit_val main_v1 (off c h i) S512x1024.size (off_inb c h i) j a
/-- and of the own block in the result. -/
theorem oOwn_emb (c : Dev nD) (j : S8192x1024.Idx) (a : Fin 2) : ((oOwn c).view.emb j a).val = k0_off3 c a + (j a).val :=
  ValueKit.view_emb_slice_whole_unit_val main_v1 (k0_off3 c) S8192x1024.size (k0_off3_inb c) j a

/-! ## The sets -/

/-- The run of 512 rows a chunk of a block is. -/
def run (i : Ch) : ℕ := 8 * i.1.toNat + i.2.val

/-- Different chunks are different runs. -/
theorem run_inj : Function.Injective run := by
  intro a b; revert a b; decide +kernel

/-- A chunk's first row. -/
theorem row_run (i : Ch) : row i = 512 * run i := by revert i; decide +kernel

/-- A chunk of a block has the rows of its run. -/
theorem mem_block (i : Ch) (x : S8192x1024.Idx) :
    x ∈ (Rect.unit (s := S8192x1024) ![row i, 0] S512x1024.size (row_inb i)).set ↔ (x 0).val / 512 = run i := by
  rw [Rect.mem_set_unit]
  have h1 := (x 1).isLt
  rw [Fin.forall_fin_two]
  show (row i ≤ (x 0).val ∧ (x 0).val < row i + 512) ∧ (0 ≤ (x 1).val ∧ (x 1).val < 0 + 1024) ↔ _
  have h1' : (x 1).val < 1024 := h1
  rw [row_run]
  omega

/-- Different chunks share no row, -/
theorem block_disjoint (i i' : Ch) (h : i ≠ i') :
    Disjoint (Rect.unit (s := S8192x1024) ![row i, 0] S512x1024.size (row_inb i)).set
      (Rect.unit (s := S8192x1024) ![row i', 0] S512x1024.size (row_inb i')).set := by
  rw [Finset.disjoint_left]
  intro x hx hx'
  rw [mem_block] at hx hx'
  exact h (run_inj (hx.symm.trans hx'))

/-- each of the sixteen runs is a chunk's, -/
theorem run_surj : ∀ k : Fin 16, ∃ i, run i = k.val := by decide +kernel

/-- and the chunks cover the block. -/
theorem block_cover : Finset.univ.biUnion (fun i : Ch => (Rect.unit (s := S8192x1024) ![row i, 0] S512x1024.size (row_inb i)).set) = Finset.univ := by
  ext x
  simp only [Finset.mem_biUnion, Finset.mem_univ, true_and, iff_true]
  have h0 : (x 0).val < 8192 := (x 0).isLt
  obtain ⟨i, hi⟩ := run_surj ⟨(x 0).val / 512, by omega⟩
  exact ⟨i, (mem_block i x).mpr hi.symm⟩

/-- A piece of the result has the rows of its origin's run; -/
theorem mem_oC (c : Dev nD) (h : Fin 3) (i : Ch) (x : S32768x1024.Idx) :
    x ∈ (oC c h i).view.set ↔ (x 0).val / 512 = 16 * (org c h i.1).val + run i := by
  refine ValueKit.mem_set_slice_whole_iff main_v1 (Rect.unit (s := S32768x1024) (off c h i) S512x1024.size (off_inb c h i)) x ?_
  rw [Rect.mem_set_unit]
  refine (Fin.forall_fin_two (p := fun a : Fin 2 => off c h i a ≤ (x a).val ∧ (x a).val < off c h i a + S512x1024.size a)).trans ?_
  have h1' : (x 1).val < 1024 := (x 1).isLt
  have e0 : off c h i 0 = 8192 * (org c h i.1).val + 512 * run i := by rw [off_eq, row_run]; rfl
  have e1 : off c h i 1 = 0 := by rw [off_eq]; rfl
  rw [e0, e1]
  show (8192 * (org c h i.1).val + 512 * run i ≤ (x 0).val ∧ (x 0).val < 8192 * (org c h i.1).val + 512 * run i + 512)
    ∧ (0 ≤ (x 1).val ∧ (x 1).val < 0 + 1024) ↔ _
  omega

/-- the own block has the device's rows. -/
theorem mem_oOwn (c : Dev nD) (x : S32768x1024.Idx) : x ∈ (oOwn c).view.set ↔ (x 0).val / 8192 = c.val := by
  refine ValueKit.mem_set_slice_whole_iff main_v1 (Rect.unit (s := S32768x1024) (k0_off3 c) S8192x1024.size (k0_off3_inb c)) x ?_
  rw [Rect.mem_set_unit]
  refine (Fin.forall_fin_two (p := fun a : Fin 2 => k0_off3 c a ≤ (x a).val ∧ (x a).val < k0_off3 c a + S8192x1024.size a)).trans ?_
  have h1' : (x 1).val < 1024 := (x 1).isLt
  have e0 : k0_off3 c 0 = 8192 * c.val := by rw [off3_eq]; rfl
  have e1 : k0_off3 c 1 = 0 := by rw [off3_eq]; rfl
  rw [e0, e1]
  show (8192 * c.val ≤ (x 0).val ∧ (x 0).val < 8192 * c.val + 8192)
    ∧ (0 ≤ (x 1).val ∧ (x 1).val < 0 + 1024) ↔ _
  omega

/-- The pieces of a device's result: its own block, and per hop and chunk what its neighbour sends it. -/
abbrev Pc : Type := Option (Fin 3 × Ch)

/-- The rows of a piece of device `c`'s result. -/
def piece (c : Dev nD) : Pc → Finset S32768x1024.Idx
  | none => (oOwn c).view.set
  | some (h, i) => (oC (src c i.1) h i).view.set

/-- What a device receives is never its own block; -/
theorem org_ne (c : Dev nD) (h : Fin 3) (d : Bool) : (org (src c d) h d).val ≠ c.val := by revert c h d; decide +kernel
/-- at different hops it is of different origins. -/
theorem org_inj (c : Dev nD) (h h' : Fin 3) (d : Bool) (e : (org (src c d) h d).val = (org (src c d) h' d).val) : h = h' := by
  revert c h h' d; decide +kernel
/-- A block has sixteen runs. -/
theorem run_lt (i : Ch) : run i < 16 := by revert i; decide +kernel

/-- The pieces of a device's result share no row, -/
theorem piece_disjoint (c : Dev nD) (p p' : Pc) (hne : p ≠ p') : Disjoint (piece c p) (piece c p') := by
  rw [Finset.disjoint_left]
  intro x hx hx'
  match p, p' with
  | none, none => exact hne rfl
  | none, some (h, i) =>
    simp only [piece] at hx hx'; rw [mem_oOwn] at hx; rw [mem_oC] at hx'
    have := org_ne c h i.1; have := run_lt i; omega
  | some (h, i), none =>
    simp only [piece] at hx hx'; rw [mem_oOwn] at hx'; rw [mem_oC] at hx
    have := org_ne c h i.1; have := run_lt i; omega
  | some (h, i), some (h', i') =>
    simp only [piece] at hx hx'; rw [mem_oC] at hx hx'
    have h1 := run_lt i; have h2 := run_lt i'
    have hi : i = i' := run_inj (by omega)
    subst hi
    have hh := org_inj c h h' i.1 (by omega)
    subst hh; exact hne rfl

/-- each of the 64 runs of the result is in a piece, -/
theorem piece_surj : ∀ (c : Dev nD) (k : Fin 64), k.val / 16 = c.val ∨ ∃ h, ∃ i : Ch, k.val = 16 * (org (src c i.1) h i.1).val + run i := by
  decide +kernel

/-- and the pieces cover the result. -/
theorem piece_cover (c : Dev nD) : Finset.univ.biUnion (piece c) = Finset.univ := by
  ext x
  simp only [Finset.mem_biUnion, Finset.mem_univ, true_and, iff_true]
  have h0 : (x 0).val < 32768 := (x 0).isLt
  rcases piece_surj c ⟨(x 0).val / 512, by omega⟩ with h | ⟨h, i, hk⟩
  · exact ⟨none, (mem_oOwn c x).mpr (by simp only at h; omega)⟩
  · exact ⟨some (h, i), (mem_oC _ h i x).mpr hk⟩

end Cert.Gather

end
-- ==== Proof.Contents.lean ====
/- What the buffers hold. Device `c`'s argument block is `X c`; its truncated block is `B c`; the gathered result, the
   same on every device, is `G`: row `8192 o + r` is row `r` of device `o`'s block, truncated. Every copy and store of the
   kernel leaves one of these three on the rows it writes. -/
module

public import proofs.«01_k».proof.Proof.Geo

@[expose] public section

noncomputable section

namespace Cert.Gather

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- Device `c`'s block of the argument. -/
def X (c : Dev nD) : S8192x1024.Idx → F .f32 := m ((c.tc : Thread nD τ).loc main_arg0)

/-- Its truncation. -/
def B (c : Dev nD) : S8192x1024.Idx → F .bf16 := fun x => FloatOps.truncf .bf16 bitsLt_bf16_f32 (X m c x)

/-- The device whose block a row of the result comes from, -/
def home (x : S32768x1024.Idx) : Dev nD := ⟨(x 0).val / 8192, by have : (x 0).val < 32768 := (x 0).isLt; show _ < 4; omega⟩
/-- and the place in that block. -/
def inner (x : S32768x1024.Idx) : S8192x1024.Idx := ix2 ⟨(x 0).val % 8192, Nat.mod_lt _ (by decide)⟩ (x 1)

/-- The gathered result. -/
def G : S32768x1024.Idx → F .bf16 := fun x => B m (home x) (inner x)

/-- The gathered result at row `y` of device `c`'s block is that device's truncated row `y`. -/
theorem G_at (c : Dev nD) (x : S32768x1024.Idx) (y : S8192x1024.Idx) (h0 : (x 0).val = 8192 * c.val + (y 0).val)
    (h1 : (x 1).val = (y 1).val) : G m x = B m c y := by
  have hy : (y 0).val < 8192 := (y 0).isLt
  have e1 : home x = c := Fin.ext (by show (x 0).val / 8192 = c.val; omega)
  have e2 : inner x = y := by
    funext a
    match a with
    | ⟨0, _⟩ => exact Fin.ext (show (x 0).val % 8192 = (y 0).val by omega)
    | ⟨1, _⟩ => exact Fin.ext h1
  unfold G; rw [e1, e2]

/-- A payload written through a view leaves contents `g` on the view if it is what the view reads off `g`. -/
theorem write_eq {κ : Kind} {sp : Space} {s : Shape} {e : EltTy} {Val : EltTy → Type} (v : View sig κ sp s e)
    (f g : v.ty.Contents Val) (w : s.Idx → Val e) (h : w = v.read Val g) :
    ∀ x ∈ v.set, v.write Val f w Finset.univ x = g x := by
  intro x hx
  obtain ⟨j, rfl⟩ := v.exists_emb_of_mem_set hx
  rw [View.write_emb_of_mem f w (Finset.mem_univ j), h, View.read_apply, cast_cast, cast_eq]

/-- A staged chunk holds the argument's rows. -/
theorem staged (c : Dev nD) (i : Ch) (f : (cc0_scratch0 : Ref sig .tc).ty.Contents (Elt F)) :
    ∀ x ∈ (sC i).view.set, (sC i).view.write (Elt F) f ((xC i).view.read (Elt F) (X m c)) Finset.univ x = X m c x :=
  write_eq (sC i).view f (X m c) _ (by
    funext j
    show X m c ((xC i).view.emb j) = X m c ((sC i).view.emb j)
    rfl)

/-- The store leaves the truncated rows. -/
theorem stored (c : Dev nD) (i : Ch) (f : (cc0_scratch1 : Ref sig .tc).ty.Contents (Elt F)) :
    ∀ x ∈ (bC i).view.set, (bC i).view.write (Elt F) f (trunc ((sC i).view.read (Elt F) (X m c))) Finset.univ x = B m c x :=
  write_eq (bC i).view f (B m c) _ (by
    funext j
    show FloatOps.truncf .bf16 bitsLt_bf16_f32 (X m c ((sC i).view.emb (Shape.reshapeEquiv _ j))) = FloatOps.truncf .bf16 bitsLt_bf16_f32 (X m c ((bC i).view.emb j))
    rw [Shape.reshapeEquiv_self]
    rfl)

/-- The first hop lands the gathered result's rows, -/
theorem sentOwn (c : Dev nD) (i : Ch) (f : (main_v1 : Ref sig .tc).ty.Contents (Elt F)) :
    ∀ x ∈ (oC c 0 i).view.set, (oC c 0 i).view.write (Elt F) f ((bC i).view.read (Elt F) (B m c)) Finset.univ x = G m x :=
  write_eq (oC c 0 i).view f (G m) _ (by
    funext j
    refine (G_at m c ((oC c 0 i).view.emb j) ((bC i).view.emb j) ?_ ?_).symm
    · rw [oC_emb, bC_emb, off_eq, org_zero]; show 8192 * c.val + row i + _ = 8192 * c.val + (row i + _); omega
    · rw [oC_emb, bC_emb, off_eq]; rfl)

/-- the later hops the same rows again, -/
theorem sentOn (c : Dev nD) (h : Fin 3) (i : Ch) (f : (main_v1 : Ref sig .tc).ty.Contents (Elt F)) :
    ∀ x ∈ (oC c h i).view.set, (oC c h i).view.write (Elt F) f ((oC c h i).view.read (Elt F) (G m)) Finset.univ x = G m x :=
  write_eq (oC c h i).view f (G m) _ rfl

/-- and the copy of the own block the device's own rows. -/
theorem copied (c : Dev nD) (f : (main_v1 : Ref sig .tc).ty.Contents (Elt F)) :
    ∀ x ∈ (oOwn c).view.set, (oOwn c).view.write (Elt F) f (bM.view.read (Elt F) (B m c)) Finset.univ x = G m x :=
  write_eq (oOwn c).view f (G m) _ (by
    funext j
    refine (G_at m c ((oOwn c).view.emb j) j ?_ ?_).symm
    · rw [oOwn_emb, off3_eq]; rfl
    · rw [oOwn_emb, off3_eq]; exact Nat.zero_add _)

end Cert.Gather

end
-- ==== Proof.Sched.lean ====
/- The kernel's semaphores as a schedule of one round. A device's barrier is paid one unit by each neighbour, which
   hands over the rows of its result that this device will write. A chunk's staged copy hands back the argument's rows and
   the staged ones; a send's source semaphore hands back what was sent; a receive semaphore hands over the rows that
   arrived, holding the gathered result; the copy of the own block hands back both its ends. -/
module

public import proofs.«01_k».proof.Proof.Contents
public import proofs.«01_k».proof.Proof.Gen.KernelIdeal.Launch
public import Idealize.ShloMosaic.Lib.Rounds
public import Idealize.ShloMosaic.Lib.Rounds.Family
public import Idealize.ShloMosaic.Lib.Pipeline.Launch
public import Idealize.ShloMosaic.Lib.Tactic

@[expose] public section

noncomputable section

namespace Cert.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resources -/

/-- The ghost state of the kernel's own schedule, its duties named by a direction. -/
abbrev UB : Type := URounds (GSem nD τ sig) Bool
/-- The ghost state of the launch and of the kernel's schedule. -/
abbrev UU : Type := UR sig nD τ × UB

local notation "𝕄" => MT nD τ sig Unit (Elt F) ℕ UU ℕ

/-- The launch's own rounds, -/
abbrev EP : Emb (UR sig nD τ) (MT nD τ sig Unit (Elt F) ℕ UU ℕ) := embL
/-- and the kernel's. -/
abbrev ER : Emb UB (MT nD τ sig Unit (Elt F) ℕ UU ℕ) := embR

variable (m : (ℓ : Loc nD τ sig) → Buf (Elt F) ℓ)

/-! ## The semaphores by what they are for -/

/-- The transfers' semaphores: the copy of the own block, the staged copies, the sends at their source, the receives. -/
abbrev Sl : Type := Unit ⊕ (Ch ⊕ ((Fin 3 × Ch) ⊕ (Fin 3 × Ch)))

namespace Sl
@[match_pattern] abbrev cp : Sl := .inl ()
@[match_pattern] abbrev inn (i : Ch) : Sl := .inr (.inl i)
@[match_pattern] abbrev send (p : Fin 3 × Ch) : Sl := .inr (.inr (.inl p))
@[match_pattern] abbrev recv (p : Fin 3 × Ch) : Sl := .inr (.inr (.inr p))
end Sl

/-- The semaphore of each. -/
def semOf : Sl → DmaSem sig
  | .cp => cpS
  | .inn i => inS i
  | .send p => sendS p.1 p.2
  | .recv p => recvS p.1 p.2

/-- What a semaphore is for. -/
def role (s : DmaSem sig) : Sl :=
  if s.val < 16 then .inn (s.val % 2 == 1, ⟨s.val / 2 % 8, Nat.mod_lt _ (by decide)⟩)
  else if s.val = 16 then .cp
  else
    let t := s.val - 17
    let p : Fin 3 × Fin 8 := (⟨t % 24 / 8, by omega⟩, ⟨t % 8, Nat.mod_lt _ (by decide)⟩)
    if t < 24 then .send (p.1, (false, p.2))
    else if t < 48 then .recv (p.1, (false, p.2))
    else if t < 72 then .send (p.1, (true, p.2))
    else .recv (p.1, (true, p.2))

instance : DecidableEq Sl := inferInstance
instance : Fintype Sl := inferInstance

/-- A semaphore's role is the one it was made for, -/
theorem role_semOf (s : Sl) : role (semOf s) = s := by
  revert s; decide +kernel

/-- so different roles have different semaphores. -/
theorem semOf_inj : Function.Injective semOf := Function.LeftInverse.injective role_semOf

/-- A device's barrier, -/
abbrev barCell (c : Dev nD) : GSem nD τ sig := ((c.tc : Thread nD τ), .reg barS)
/-- a transfer's semaphore on it, -/
abbrev dmaCell (c : Dev nD) (s : Sl) : GSem nD τ sig := ((c.tc : Thread nD τ), .dma (semOf s))
/-- and that of the chunk it receives at a hop. -/
abbrev recvCell (c : Dev nD) (h : Fin 3) (i : Ch) : GSem nD τ sig := dmaCell c (.recv (h, i))

/-- All of a device's semaphores. -/
abbrev Kc : Type := Unit ⊕ Sl
/-- The semaphore of a device that `Kc` names. -/
abbrev kcell (ck : Dev nD × Kc) : GSem nD τ sig := match ck.2 with
  | .inl _ => barCell ck.1
  | .inr s => dmaCell ck.1 s

/-- Different names are different semaphores. -/
theorem kcell_inj : Function.Injective kcell := by
  rintro ⟨c, k⟩ ⟨c', k'⟩ h
  match k, k' with
  | .inl (), .inl () => have : c = c' := congrArg (fun g : GSem nD τ sig => g.1.1) h; rw [this]
  | .inl (), .inr s => exact absurd (congrArg Prod.snd h) (fun h' => by cases h')
  | .inr s, .inl () => exact absurd (congrArg Prod.snd h) (fun h' => by cases h')
  | .inr s, .inr s' =>
    have h1 : c = c' := congrArg (fun g : GSem nD τ sig => g.1.1) h
    have h2 : semOf s = semOf s' := SemLoc.dma.inj (congrArg Prod.snd h)
    rw [h1, semOf_inj h2]

/-! ## Amounts -/

/-- What a staged chunk counts, -/
@[irreducible] def nIn : ℕ := (sC (false, 0)).view.dmaCredit
/-- a chunk of the result, -/
@[irreducible] def nHop : ℕ := (bC (false, 0)).view.dmaCredit
/-- and the own block. -/
@[irreducible] def nCp : ℕ := (bM).view.dmaCredit

/-- The own block's copy has a credit, -/
theorem nCp_pos : 0 < nCp := by unfold nCp; exact View.dmaCredit_pos _ (Shape.numel_pos (by decide))
/-- so has a staged copy, -/
theorem nIn_pos : 0 < nIn := by unfold nIn; exact View.dmaCredit_pos _ (Shape.numel_pos (by decide))
/-- and so has a hop. -/
theorem nHop_pos : 0 < nHop := by unfold nHop; exact View.dmaCredit_pos _ (Shape.numel_pos (by decide))

/-- A staged chunk's credit, -/
theorem sC_credit (i : Ch) : (sC i).view.dmaCredit = nIn := by unfold nIn; rfl
/-- a truncated chunk's, -/
theorem bC_credit (i : Ch) : (bC i).view.dmaCredit = nHop := by unfold nHop; rfl
/-- that of a piece of the result, -/
theorem oC_credit (c : Dev nD) (h : Fin 3) (i : Ch) : (oC c h i).view.dmaCredit = nHop := by unfold nHop; rfl
/-- and the own block's. -/
theorem oOwn_credit (c : Dev nD) : (oOwn c).view.dmaCredit = nCp := by unfold nCp; rfl

/-- What a transfer on each semaphore counts. -/
def amt : Sl → ℕ
  | .cp => nCp
  | .inn _ => nIn
  | .send _ => nHop
  | .recv _ => nHop

/-- Every transfer has a credit. -/
theorem amt_pos : ∀ s : Sl, 0 < amt s
  | .cp => nCp_pos
  | .inn _ => nIn_pos
  | .send _ => nHop_pos
  | .recv _ => nHop_pos

/-! ## Pieces of the buffers -/

/-- Device `c`'s argument rows of a chunk, -/
def xPts (c : Dev nD) (i : Ch) : sProp 𝕄 := (xC i).view.loc (c.tc : Thread nD τ) ↦[(xC i).view.set]{fullShare} X m c
/-- its staged rows at `f`, -/
def sPts (c : Dev nD) (i : Ch) (f : (cc0_scratch0 : Ref sig .tc).ty.Contents (Elt F)) : sProp 𝕄 :=
  (sC i).view.loc (c.tc : Thread nD τ) ↦[(sC i).view.set]{fullShare} f
/-- its truncated rows at `f`, a share of them, -/
def bPts (c : Dev nD) (i : Ch) (q : PosShare TreeShare) (f : (cc0_scratch1 : Ref sig .tc).ty.Contents (Elt F)) : sProp 𝕄 :=
  (bC i).view.loc (c.tc : Thread nD τ) ↦[(bC i).view.set]{q} f
/-- in device `d`'s result, the rows of the chunk that `c` sends at hop `h`, -/
def oPts (d c : Dev nD) (h : Fin 3) (i : Ch) (f : (main_v1 : Ref sig .tc).ty.Contents (Elt F)) : sProp 𝕄 :=
  (oC c h i).view.loc (d.tc : Thread nD τ) ↦[(oC c h i).view.set]{fullShare} f
/-- and its own block. -/
def ownPts (c : Dev nD) (f : (main_v1 : Ref sig .tc).ty.Contents (Elt F)) : sProp 𝕄 :=
  (oOwn c).view.loc (c.tc : Thread nD τ) ↦[(oOwn c).view.set]{fullShare} f
/-- A share of the whole truncated block. -/
def bAll (c : Dev nD) (q : PosShare TreeShare) : sProp 𝕄 :=
  bM.view.loc (c.tc : Thread nD τ) ↦[bM.view.set]{q} B m c

instance xPts_storable (c i) : BI.Storable (upEmb : UEmb _ 𝕄) (xPts (F := F) m c i) := by unfold xPts; infer_instance
instance sPts_storable (c i f) : BI.Storable (upEmb : UEmb _ 𝕄) (sPts (F := F) c i f) := by unfold sPts; infer_instance
instance bPts_storable (c i q f) : BI.Storable (upEmb : UEmb _ 𝕄) (bPts (F := F) c i q f) := by unfold bPts; infer_instance
instance oPts_storable (d c h i f) : BI.Storable (upEmb : UEmb _ 𝕄) (oPts (F := F) d c h i f) := by unfold oPts; infer_instance
instance ownPts_storable (c f) : BI.Storable (upEmb : UEmb _ 𝕄) (ownPts (F := F) c f) := by unfold ownPts; infer_instance
instance bAll_storable (c q) : BI.Storable (upEmb : UEmb _ 𝕄) (bAll (F := F) m c q) := by unfold bAll; infer_instance

/-! ## The schedule -/

/-- What the neighbour that `c` sends to in direction `d` hands it at the barrier: the rows `c` will write there. -/
def barPay (c : Dev nD) (d : Bool) : sProp 𝕄 :=
  bigSep Finset.univ fun p : Fin 3 × Fin 8 => iprop(∃ f, oPts (nbr c d) c p.1 (d, p.2) f)

/-- What a send's source semaphore hands back: at the first hop half of the truncated rows, then the forwarded rows. -/
def sendPay (c : Dev nD) (h : Fin 3) (i : Ch) : sProp 𝕄 :=
  if h = 0 then bPts c i fullShare.left (B m c) else oPts c c h i (G m)

/-- What each transfer's semaphore hands over. -/
def pay (c : Dev nD) : Sl → sProp 𝕄
  | .cp => iprop(ownPts c (G m) ∗ bAll m c fullShare.right)
  | .inn i => iprop(sPts c i (X m c) ∗ xPts m c i)
  | .send p => sendPay m c p.1 p.2
  | .recv p => oPts c (src c p.2.1) p.1 p.2 (G m)

instance barPay_storable (c d) : BI.Storable (upEmb : UEmb _ 𝕄) (barPay (F := F) c d) := by unfold barPay; infer_instance
instance sendPay_storable (c h i) : BI.Storable (upEmb : UEmb _ 𝕄) (sendPay (F := F) m c h i) := by
  unfold sendPay; split <;> infer_instance
instance pay_storable (c : Dev nD) (s : Sl) : BI.Storable (upEmb : UEmb _ 𝕄) (pay (F := F) m c s) := by
  rcases s with _ | _ | _ | _ <;> (unfold pay; infer_instance)

/-- The schedule: round 0 only; a barrier has both directions' duties of one unit, a transfer's semaphore one duty. -/
def rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma s => amt (role s)
  payload g _ d := match g.2 with | .reg _ => barPay g.1.1 d | .dma s => pay m g.1.1 (role s)
  amount_pos g _ _ _ := by
    rcases g with ⟨t, sm⟩
    cases sm with
    | reg _ => exact Nat.one_pos
    | dma s => exact amt_pos _

instance rd_storable (g : GSem nD τ sig) (r : ℕ) (d : Bool) : BI.Storable (upEmb : UEmb _ 𝕄) ((rd (F := F) m).payload g r d) := by
  rcases g with ⟨t, sm⟩
  cases sm with
  | reg _ => exact barPay_storable _ _
  | dma s => exact pay_storable m _ _

/-- A barrier's duties are the two directions, -/
theorem duties_bar (c : Dev nD) : (rd (F := F) m).duties (barCell c) 0 = Finset.univ := by dsimp only [rd]; exact if_pos ⟨rfl, rfl⟩
/-- a transfer has one duty, -/
theorem duties_dma (c : Dev nD) (s : Sl) : (rd (F := F) m).duties (dmaCell c s) 0 = {false} := by dsimp only [rd]; exact if_pos ⟨rfl, rfl⟩
/-- and after round 0 there is none. -/
theorem duties_later (g : GSem nD τ sig) : ∀ r, 1 ≤ r → (rd (F := F) m).duties g r = ∅ :=
  fun r hr => by dsimp only [rd]; rw [if_neg fun h => by omega]

/-- A barrier's duty is one unit, -/
theorem amount_bar (c : Dev nD) (d : Bool) : (rd (F := F) m).amount (barCell c) 0 d = 1 := rfl
/-- a transfer's its credit. -/
theorem amount_dma (c : Dev nD) (s : Sl) (d : Bool) : (rd (F := F) m).amount (dmaCell c s) 0 d = amt s := by
  show amt (role (semOf s)) = _; rw [role_semOf]

/-- A barrier expects two units, -/
theorem expect_bar (c : Dev nD) : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
/-- a transfer its credit. -/
theorem expect_dma (c : Dev nD) (s : Sl) : (rd (F := F) m).expect (dmaCell c s) 0 = amt s := by
  unfold Schedule.expect Schedule.amountOf; rw [duties_dma, Finset.sum_singleton, amount_dma]

/-- A barrier's duty carries the neighbour's rows, -/
theorem payload_bar (c : Dev nD) (d : Bool) : (rd (F := F) m).payload (barCell c) 0 d = barPay c d := rfl
/-- a transfer's what the transfer carries. -/
theorem payload_dma (c : Dev nD) (s : Sl) (d : Bool) : (rd (F := F) m).payload (dmaCell c s) 0 d = pay m c s := by
  show pay m c (role (semOf s)) = _; rw [role_semOf]

/-- A barrier's round hands over both neighbours' rows; -/
theorem rest_bar (c : Dev nD) : bigSep ((rd (F := F) m).duties (barCell c) 0 \ ∅) (fun d => (rd (F := F) m).payload (barCell c) 0 d)
    = iprop(barPay c false ∗ barPay c true) := by
  rw [Finset.sdiff_empty, duties_bar, bigSep_univ_eq_bigSepL [false, true] (by decide) (by decide), bigSepL_cons_cons, bigSepL_singleton]
  rfl
/-- a transfer's what it carries. -/
theorem rest_dma (c : Dev nD) (s : Sl) : bigSep ((rd (F := F) m).duties (dmaCell c s) 0 \ ∅) (fun d => (rd (F := F) m).payload (dmaCell c s) 0 d)
    = pay m c s := by
  rw [Finset.sdiff_empty, duties_dma, bigSep_singleton, payload_dma]

/-! ## What is owed, and the levels -/

/-- What `c` owes for the sends of hop `h` over the chunks of a list. -/
def owH (c : Dev nD) (h : Fin 3) : List Ch → CellTallies nD τ sig Unit
  | [] => 0
  | i :: l => owH c h l + tallyAt (recvCell (nbr c i.1) h i) () nHop

/-- What a device owes before the staging loop, with `l` the chunks still to send, -/
def owed0 (c : Dev nD) (l : List Ch) : CellTallies nD τ sig Unit := owH c 2 byPlace + owH c 1 byPlace + owH c 0 l
/-- before the first forwarding loop, -/
def owed1 (c : Dev nD) (l : List Ch) : CellTallies nD τ sig Unit := owH c 2 byPlace + owH c 1 l
/-- and between its two barrier signals. -/
def owedB (c : Dev nD) : CellTallies nD τ sig Unit := owed0 c byPlace + tallyAt (barCell (nbr c false)) () 1
/-- What it owes at launch. -/
def O₀ (c : Dev nD) : CellTallies nD τ sig Unit := owedB c + tallyAt (barCell (nbr c true)) () 1

/-- Every semaphore of a TensorCore has a level. -/
def L (g : GSem nD τ sig) : Finset Unit := if g.1.2 = .tc then {()} else ∅
/-- The staged copies, the sends' sources and the copy of the own block are at level 0, the barrier at 1, hop `h`'s receives at `h + 2`. -/
def lv (g : GSem nD τ sig) (_ : Unit) : ℕ := match g.2 with
  | .reg _ => 1
  | .dma s => match role s with
    | .recv p => p.1.val + 2
    | _ => 0

/-- No other has, -/
theorem L_of_ne (g : GSem nD τ sig) (h : g.1.2 ≠ .tc) : L g = ∅ := if_neg h
/-- and these have. -/
theorem L_tc (c : Dev nD) (sm : SemLoc sig) : L ((c.tc : Thread nD τ), sm) = {()} := if_pos rfl

/-- The level of a transfer's semaphore. -/
def lvl : Sl → ℕ
  | .recv p => p.1.val + 2
  | _ => 0
/-- The level of a transfer's semaphore is that of its role. -/
theorem lv_dma (c : Dev nD) (s : Sl) : lv (dmaCell c s) () = lvl s := by
  show (match role (semOf s) with | .recv p => p.1.val + 2 | _ => 0) = _
  rw [role_semOf]; rcases s with _ | _ | _ | _ <;> rfl

/-- What a hop owes is owed to receive semaphores of that hop. -/
theorem owH_pos {c : Dev nD} {h : Fin 3} {l : List Ch} {g : GSem nD τ sig} {u : Unit} (hg : 0 < owH c h l g u) :
    ∃ i, g = recvCell (nbr c i.1) h i := by
  induction l with
  | nil => exact absurd hg (Nat.lt_irrefl 0)
  | cons i l ih =>
    unfold owH at hg
    rw [Pi.add_apply, Finsupp.add_apply, tallyAt_apply] at hg
    by_cases he : g = recvCell (nbr c i.1) h i ∧ u = ()
    · exact ⟨i, he.1⟩
    · rw [if_neg he, Nat.add_zero] at hg; exact ih hg

/-- Every cell that tallies `O` names is some device's, above level `k`. -/
def Above (k : ℕ) (O : CellTallies nD τ sig Unit) : Prop :=
  ∀ g u, 0 < O g u → g.1.2 = .tc ∧ k < lv g ()

/-- Two things above a level are so together. -/
theorem Above.add {k : ℕ} {O O' : CellTallies nD τ sig Unit} (h : Above k O) (h' : Above k O') : Above k (O + O') := by
  intro g u hg
  rw [Pi.add_apply, Finsupp.add_apply] at hg
  rcases Nat.eq_zero_or_pos (O g u) with h0 | h0
  · rw [h0, Nat.zero_add] at hg; exact h' g u hg
  · exact h g u h0

/-- A hop owes at its level, -/
theorem above_owH (c : Dev nD) (h : Fin 3) (l : List Ch) {k : ℕ} (hk : k < h.val + 2) : Above k (owH c h l) := by
  intro g u hg
  obtain ⟨i, rfl⟩ := owH_pos hg
  exact ⟨rfl, by rw [lv_dma]; exact hk⟩

/-- a barrier signal above level 0, -/
theorem above_bar (c : Dev nD) : Above 0 (tallyAt (barCell c) () 1) := by
  intro g u hg
  rw [tallyAt_apply] at hg
  by_cases he : g = barCell c ∧ u = ()
  · rw [he.1]; exact ⟨rfl, Nat.one_pos⟩
  · rw [if_neg he] at hg; exact absurd hg (Nat.lt_irrefl 0)

/-- the first hop and those after it above the barrier's level, -/
theorem above_owed0 (c : Dev nD) (l : List Ch) {k : ℕ} (hk : k < 2) : Above k (owed0 c l) :=
  ((above_owH c 2 _ (by omega)).add (above_owH c 1 _ (by omega))).add (above_owH c 0 _ (by simpa using hk))
/-- and the second hop and those after it above the first's. -/
theorem above_owed1 (c : Dev nD) (l : List Ch) {k : ℕ} (hk : k < 3) : Above k (owed1 c l) :=
  (above_owH c 2 _ (by omega)).add (above_owH c 1 _ (by omega))

/-- A device may wait on a cell of its own below all it owes. -/
theorem mayWait (c : Dev nD) (sm : SemLoc sig) (O : CellTallies nD τ sig Unit) (k : ℕ) (hk : lv ((c.tc : Thread nD τ), sm) () ≤ k) (hO : Above k O) :
    (levAts L lv : sProp 𝕄) ⊢ MayWait (c.tc : Thread nD τ) sm () O :=
  MayOwe.of_cut (L := L) (lev := lv) k (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hk)
    (fun g u hg => (hO g u hg).2)

end Cert.Gather

end
-- ==== Proof.Loop.lean ====
/- The rule for a loop over distinct items: each run of the step takes its item's resources to what it leaves of them,
   under facts that persist and a state that follows the items still to come. -/
module

public import proofs.«01_k».proof.Proof.Sched

@[expose] public section

noncomputable section

namespace Cert.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ
local notation "ℙ" => Prog (TpuEff nD τ sig (Elt F) Λ₀ Proc.tc)

/-- No loop needs a variant. -/
abbrev 𝒱₀ : Variants := Variants.none

/-- What a program of device `c` does, as a predicate on the resources it starts from. -/
abbrev WP (c : Dev nD) {α : Type} (p : ℙ α) (Q : α → sProp 𝕄) : sProp 𝕄 :=
  wp frame (wpE (defs₀ (F := F)) 𝒱₀ (c.tc : Thread nD τ) none) Set.univ p Q

/-- A program after another. -/
theorem WP_bind (c : Dev nD) {α β : Type} (p : ℙ α) (k : α → ℙ β) (Q : β → sProp 𝕄) :
    WP c (p >>= k) Q = WP c p fun a => WP c (k a) Q := wp_bind _ _ _ _ _ _

/-- A program that returns. -/
theorem WP_ret (c : Dev nD) {α : Type} (a : α) (Q : α → sProp 𝕄) : WP c (Prog.ret a) Q = iprop(|={Set.univ}=> Q a) := wp_ret _ _ _ _ _

/-- A program's outcome may be weakened. -/
theorem WP_wand (c : Dev nD) {α : Type} {p : ℙ α} {Q Q' : α → sProp 𝕄} : WP c p Q ⊢ iprop((∀ a, Q a -∗ Q' a) -∗ WP c p Q') :=
  wp_wand _ _ _

/-- A loop over distinct items. -/
theorem wp_runL {ι : Type} [DecidableEq ι] (c : Dev nD) (P : sProp 𝕄) [BI.Persistent P] (S : List ι → sProp 𝕄) (A D : ι → sProp 𝕄) (f : ι → ℙ PUnit)
    (step : ∀ i rest, iprop(P ∗ S (i :: rest) ∗ A i) ⊢ WP c (f i) fun _ => iprop(S rest ∗ D i))
    (l : List ι) (hl : l.Nodup) :
    iprop(P ∗ S l ∗ bigSep l.toFinset A) ⊢ WP c (runL f l) fun _ => iprop(S [] ∗ bigSep l.toFinset D) := by
  induction l with
  | nil =>
    show _ ⊢ WP c (Prog.ret PUnit.unit) _
    rw [WP_ret]
    iintro ⟨-, HS, HA⟩
    imodintro
    isplitl [HS]; · iexact HS
    simp only [List.toFinset_nil, bigSep_empty]
    iexact HA
  | cons i l ih =>
    have hi : i ∉ l.toFinset := by rw [List.mem_toFinset]; exact (List.nodup_cons.mp hl).1
    have split (Φ : ι → sProp 𝕄) : bigSep (i :: l).toFinset Φ = iprop(Φ i ∗ bigSep l.toFinset Φ) := by
      rw [List.toFinset_cons]; exact bigSep_insert hi
    rw [split, split]
    show _ ⊢ WP c (f i >>= fun _ => runL f l) _
    rw [WP_bind]
    iintro ⟨#HP, HS, HA, HR⟩
    ihave Hw := (step i l) $$ [HS HA]
    · isplitr; · iexact HP
      isplitl [HS] <;> iassumption
    iapply (WP_wand c) $$ Hw
    iintro %u ⟨HS, HD⟩
    ihave Hw := (ih (List.nodup_cons.mp hl).2) $$ [HS HR]
    · isplitr; · iexact HP
      isplitl [HS] <;> iassumption
    iapply (WP_wand c) $$ Hw
    iintro %u' ⟨HS, HR⟩
    isplitl [HS]; · iexact HS
    isplitl [HD] <;> iassumption

end Cert.Gather

end
-- ==== Proof.Moves.lean ====
/- The kernel's steps one at a time: what each takes and what it leaves. -/
module

public import proofs.«01_k».proof.Proof.Loop

@[expose] public section

noncomputable section

namespace Cert.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ
local notation "ℙ" => Prog (TpuEff nD τ sig (Elt F) Λ₀ Proc.tc)

variable (m : (ℓ : Loc nD τ sig) → Buf (Elt F) ℓ)

/-! ## The facts every step may use -/

/-- Every cell's invariant, under the names `K`, that each is at its round, and the levels. -/
def facts (K : Dev nD × Kc → ℕ) : sProp 𝕄 :=
  iprop((bigSep Finset.univ fun ck : Dev nD × Kc => cellInv ER (rd m) (K ck) (kcell ck))
    ∗ (bigSep Finset.univ fun ck : Dev nD × Kc => reached ER (kcell ck) 0) ∗ levAts L lv)

instance facts_persistent (K : Dev nD × Kc → ℕ) : BI.Persistent (facts m K) := by unfold facts; infer_instance

variable (K : Dev nD × Kc → ℕ)

/-- The facts hold each cell's invariant, -/
theorem facts_inv (ck : Dev nD × Kc) : facts m K ⊢ cellInv ER (rd m) (K ck) (kcell ck) := by
  unfold facts
  have h : (bigSep Finset.univ fun ck : Dev nD × Kc => (cellInv ER (rd m) (K ck) (kcell ck) : sProp 𝕄)) ⊢ cellInv ER (rd m) (K ck) (kcell ck) :=
    bigSep_elim (Finset.mem_univ ck)
  iintro ⟨H, -⟩
  iapply h; iexact H
/-- that it has reached round 0, -/
theorem facts_reached (ck : Dev nD × Kc) : facts m K ⊢ reached ER (kcell ck) 0 := by
  unfold facts
  have h : (bigSep Finset.univ fun ck : Dev nD × Kc => (reached ER (kcell ck) 0 : sProp 𝕄)) ⊢ reached ER (kcell ck) 0 :=
    bigSep_elim (Finset.mem_univ ck)
  iintro ⟨-, H, -⟩
  iapply h; iexact H
/-- and the levels. -/
theorem facts_lev : facts m K ⊢ levAts L lv := by
  unfold facts
  iintro ⟨-, -, H⟩; iexact H

/-- A device's debts, whatever it has waited for so far. -/
def Ow (c : Dev nD) (O : CellTallies nD τ sig Unit) : sProp 𝕄 := iprop(∃ W, owes (c.tc : Thread nD τ) O W)

/-! ## Waiting for a transfer -/

/-- A wait on a semaphore of the device's own, owing only above it, brings what the semaphore carries. -/
theorem wp_await (c : Dev nD) (s : Sl) {sp sp' : Space} {sh sh' : Shape} {e e' : EltTy}
    {a : Memref sig .tc sp sh e} {b : Memref sig .tc sp' sh' e'} {h₁ : a.view.WordExact} {h₂ : b.view.WordExact}
    (hk : b.view.dmaCredit = amt s) (O : CellTallies nD τ sig Unit) (hO : Above (lvl s) O) :
    iprop(facts m K ∗ Ow c O ∗ (cred (tallyAt (dmaCell c s) () (amt s)) ∗ atPos ER (dmaCell c s) 0 ∅ 0))
      ⊢ WP c (Prog.lift (.waitDma2 (semOf s) a b h₁ h₂)) fun _ => iprop(Ow c O ∗ (atPos ER (dmaCell c s) 1 ∅ 0 ∗ pay m c s)) := by
  unfold Ow
  show _ ⊢ WP c (.op (.waitDma2 (semOf s) a b h₁ h₂) Prog.ret) _
  iintro ⟨#HF, ⟨%W, HO⟩, Hc, Hat⟩
  iapply (Rounds.wp_wait_rest_token 𝒱₀ ER (rd m) (c.tc : Thread nD τ) none (κ := K (c, .inr s))
      (wpE_waitDma2_eq 𝒱₀ (c.tc : Thread nD τ) none Set.univ) (Set.mem_univ _) () (O := O) (W := W) (R := 0) (m := 0) (T := ∅)
      (by rw [expect_dma, Nat.zero_add]; exact hk)) $$ [Hc HO Hat]
  · isplitr; · iapply (facts_inv m K (c, .inr s)); iexact HF
    isplitl [Hc]; · rw [hk]; iexact Hc
    isplitl [HO]; · iexact HO
    isplitr
    · iapply (mayWait c (.dma (semOf s)) O (lvl s) (le_of_eq (lv_dma c s)) hO); iapply (facts_lev m K); iexact HF
    iexact Hat
  iintro ⟨HO, Hat, -, Hp⟩
  ihave Hp := (Entails.of_eq (rest_dma m c s)) $$ Hp
  rw [wp_ret]
  imodintro
  isplitl [HO]; · iexists _; iexact HO
  isplitl [Hat]; · iexact Hat
  iexact Hp

/-! ## Starting a transfer -/

/-- A semaphore's one duty. -/
theorem mem_duty (c : Dev nD) (s : Sl) : false ∈ (rd (F := F) m).duties (dmaCell c s) 0 := by
  rw [duties_dma]; exact Finset.mem_singleton_self _

/-- The start of a chunk's staged copy. -/
theorem wp_copyIn (c : Dev nD) (i : Ch) :
    iprop(facts m K ∗ (xPts m c i ∗ (∃ f, sPts c i f) ∗ dutyTok ER (dmaCell c (.inn i)) 0 false))
      ⊢ WP c (copyIn i) fun _ => cred (tallyAt (dmaCell c (.inn i)) () (amt (.inn i))) := by
  unfold xPts sPts
  show _ ⊢ WP c (.op (.enqueueDma (xC i) (.here (sC i)) (.dma (inS i)) (View.wordExact_bits rfl) (View.wordExact_bits rfl) ⟨Or.inl rfl, trivial⟩) Prog.ret) _
  iintro ⟨#HF, Hx, ⟨%f, Hs⟩, Ht⟩
  iapply (Rounds.wp_copy_pointsTo 𝒱₀ ER (rd m) (c.tc : Thread nD τ) none (κ := K (c, .inr (.inn i))) (r := 0) (d := false)
      (by exact mem_duty m c (.inn i))
      () (amt (.inn i)) (by exact sC_credit i) (amount_dma m c (.inn i) false)
      (by
        exact (sep_mono_left (Entails.of_eq (pointsTo_congr (staged m c i f)))).trans (Entails.of_eq (payload_dma m c (.inn i) false).symm))) $$ [Hx Hs Ht]
  · isplitr; · iapply (facts_inv m K (c, .inr (.inn i))); iexact HF
    isplitl [Hx]; · iexact Hx
    isplitl [Hs]; · iexact Hs
    isplitl [Ht]; · iexact Ht
    iapply (facts_reached m K (c, .inr (.inn i))); iexact HF
  iintro Hc
  rw [wp_ret]
  imodintro
  iexact Hc

/-- The start of the own block's copy. -/
theorem wp_copyOut (c : Dev nD) :
    iprop(facts m K ∗ (bAll m c fullShare.right ∗ (∃ f, ownPts c f) ∗ dutyTok ER (dmaCell c .cp) 0 false))
      ⊢ WP c (copyOut c) fun _ => cred (tallyAt (dmaCell c .cp) () (amt .cp)) := by
  unfold bAll ownPts
  show _ ⊢ WP c (.op (.enqueueDma bM (.here (oOwn c)) (.dma cpS) _ _ _) Prog.ret) _
  iintro ⟨#HF, Hx, ⟨%f, Hs⟩, Ht⟩
  iapply (Rounds.wp_copy_pointsTo 𝒱₀ ER (rd m) (c.tc : Thread nD τ) none (κ := K (c, .inr .cp)) (r := 0) (d := false)
      (by exact mem_duty m c .cp)
      () (amt .cp) (by exact oOwn_credit c) (amount_dma m c .cp false)
      (by
        exact (sep_mono_left (Entails.of_eq (pointsTo_congr (copied m c f)))).trans (Entails.of_eq (payload_dma m c .cp false).symm))) $$ [Hx Hs Ht]
  · isplitr; · iapply (facts_inv m K (c, .inr .cp)); iexact HF
    isplitl [Hx]; · iexact Hx
    isplitl [Hs]; · iexact Hs
    isplitl [Ht]; · iexact Ht
    iapply (facts_reached m K (c, .inr .cp)); iexact HF
  iintro Hc
  rw [wp_ret]
  imodintro
  iexact Hc

/-- A chunk sent at hop `h` from rows `a` that hold what its target is to hold. -/
theorem wp_hop (c : Dev nD) (h : Fin 3) (i : Ch) {sp : Space} {a : Memref sig .tc sp S512x1024 .bf16}
    {hsc : (oC c h i : Memref sig (Dev.tc (nbr c i.1) : Thread nD τ).2.kind .hbm S512x1024 .bf16).view.ref.isScScratch = false}
    {h₁ : a.view.WordExact} {h₂ : (oC c h i).view.WordExact}
    {h₃ : DmaTarget.Typed sp (.dma (recvS h i)) (.remote (Dev.tc (nbr c i.1) : Thread nD τ) (oC c h i) (.dma (sendS h i)) hsc)}
    {q : PosShare TreeShare} {fs : a.view.ty.Contents (Elt F)}
    (hs : (a.view.loc (c.tc : Thread nD τ) ↦[a.view.set]{q} fs : sProp 𝕄) ⊢ sendPay m c h i)
    (hv : ∀ f, ∀ x ∈ (oC c h i).view.set, (oC c h i).view.write (Elt F) f (a.view.read (Elt F) fs) Finset.univ x = G m x)
    (O : CellTallies nD τ sig Unit) :
    iprop(facts m K ∗ Ow c (O + tallyAt (recvCell (nbr c i.1) h i) () nHop)
        ∗ ((a.view.loc (c.tc : Thread nD τ) ↦[a.view.set]{q} fs) ∗ (∃ f, oPts (nbr c i.1) c h i f)
          ∗ dutyTok ER (dmaCell c (.send (h, i))) 0 false ∗ dutyTok ER (recvCell (nbr c i.1) h i) 0 false))
      ⊢ WP c (Prog.lift (.enqueueDma a (.remote (Dev.tc (nbr c i.1)) (oC c h i) (.dma (sendS h i)) hsc) (.dma (recvS h i)) h₁ h₂ h₃))
          fun _ => iprop(Ow c O ∗ cred (tallyAt (dmaCell c (.send (h, i))) () (amt (.send (h, i))))) := by
  unfold oPts Ow
  show _ ⊢ WP c (.op (.enqueueDma a (.remote (Dev.tc (nbr c i.1)) (oC c h i) (.dma (sendS h i)) hsc) (.dma (recvS h i)) h₁ h₂ h₃) Prog.ret) _
  iintro ⟨#HF, ⟨%W, HO⟩, Ha, ⟨%f, Ho⟩, Ht, Ht'⟩
  iapply (Rounds.wp_send_pointsTo 𝒱₀ ER (rd m) (c.tc : Thread nD τ) none (κ₁ := K (c, .inr (.send (h, i)))) (κ₂ := K (nbr c i.1, .inr (.recv (h, i))))
      (r₁ := 0) (r₂ := 0) (d₁ := false) (d₂ := false) (q := q) (fs := fs) (fd := f)
      (by exact mem_duty m c (.send (h, i)))
      (by exact mem_duty m (nbr c i.1) (.recv (h, i)))
      () () nHop (by exact oC_credit c h i) (amount_dma m c (.send (h, i)) false) (amount_dma m (nbr c i.1) (.recv (h, i)) false) O rfl (W := W)
      (by
        exact hs.trans (Entails.of_eq (payload_dma m c (.send (h, i)) false).symm))
      (by
        have e : oPts (F := F) (nbr c i.1) (src (nbr c i.1) i.1) h i (G m) = oPts (nbr c i.1) c h i (G m) := by rw [src_nbr]
        exact (Entails.of_eq (pointsTo_congr (hv f))).trans ((Entails.of_eq e.symm).trans
          (Entails.of_eq (payload_dma m (nbr c i.1) (.recv (h, i)) false).symm)))) $$ [HO Ha Ho Ht Ht']
  · isplitr; · iapply (facts_inv m K (c, .inr (.send (h, i)))); iexact HF
    isplitr; · iapply (facts_inv m K (nbr c i.1, .inr (.recv (h, i)))); iexact HF
    isplitl [Ha]; · iexact Ha
    isplitl [Ho]; · iexact Ho
    isplitl [HO]; · iexact HO
    isplitl [Ht]; · iexact Ht
    isplitr; · iapply (facts_reached m K (c, .inr (.send (h, i)))); iexact HF
    isplitl [Ht']; · iexact Ht'
    iapply (facts_reached m K (nbr c i.1, .inr (.recv (h, i)))); iexact HF
  iintro ⟨Hc, HO⟩
  rw [wp_ret]
  imodintro
  isplitl [HO]; · iexists _; iexact HO
  iexact Hc

end Cert.Gather

end
-- ==== Proof.Turns.lean ====
/- The barrier, and one turn of each loop of the kernel. -/
module

public import proofs.«01_k».proof.Proof.Moves

@[expose] public section

noncomputable section

namespace Cert.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ
local notation "ℙ" => Prog (TpuEff nD τ sig (Elt F) Λ₀ Proc.tc)

variable (m : (ℓ : Loc nD τ sig) → Buf (Elt F) ℓ) (K : Dev nD × Kc → ℕ)

/-- The two halves of a chunk's truncated rows. -/
theorem bPts_halves (c : Dev nD) (i : Ch) (f : (cc0_scratch1 : Ref sig .tc).ty.Contents (Elt F)) :
    bPts (F := F) c i fullShare f ⊢ iprop(bPts c i fullShare.left f ∗ bPts c i fullShare.right f) :=
  (pointsTo_share (PosShare.mem_left_op_right fullShare)).1

/-- What a device receives on one hop is what it sends on the next. -/
theorem oPts_next (d c : Dev nD) (h : Fin 2) (i : Ch) (f : (main_v1 : Ref sig .tc).ty.Contents (Elt F)) :
    oPts (F := F) d (src c i.1) h.castSucc i f = oPts d c h.succ i f := by
  have key : ∀ (o o' : Fin 2 → ℕ) (p : ∀ a, o a + S512x1024.size a ≤ S32768x1024.size a)
      (p' : ∀ a, o' a + S512x1024.size a ≤ S32768x1024.size a), o = o' →
      ((oM.slice (Rect.unit (s := S32768x1024) o S512x1024.size p) (fun _ => rfl)).view.loc (d.tc : Thread nD τ)
          ↦[(oM.slice (Rect.unit (s := S32768x1024) o S512x1024.size p) (fun _ => rfl)).view.set]{fullShare} f : sProp 𝕄)
        = ((oM.slice (Rect.unit (s := S32768x1024) o' S512x1024.size p') (fun _ => rfl)).view.loc (d.tc : Thread nD τ)
          ↦[(oM.slice (Rect.unit (s := S32768x1024) o' S512x1024.size p') (fun _ => rfl)).view.set]{fullShare} f) := by
    intro o o' p p' e; subst e; rfl
  refine key _ _ (off_inb _ _ _) (off_inb _ _ _) ?_
  rw [← off_next, nbr_src]

/-- One more chunk of hop 0 to send is one more credit owed; -/
theorem owed0_cons (c : Dev nD) (i : Ch) (l : List Ch) :
    owed0 c (i :: l) = owed0 c l + tallyAt (recvCell (nbr c i.1) 0 i) () nHop := by
  unfold owed0; rw [owH, add_assoc (owH c 2 byPlace + owH c 1 byPlace)]
/-- so it is for hop 1. -/
theorem owed1_cons (c : Dev nD) (i : Ch) (l : List Ch) :
    owed1 c (i :: l) = owed1 c l + tallyAt (recvCell (nbr c i.1) 1 i) () nHop := by
  unfold owed1; rw [owH, add_assoc (owH c 2 byPlace)]

/-- Both directions are duties of a barrier. -/
theorem mem_bar (c : Dev nD) (d : Bool) : d ∈ (rd (F := F) m).duties (barCell c) 0 := by
  rw [duties_bar]; exact Finset.mem_univ _

/-- The barrier: a device hands each neighbour the rows that neighbour will write, and takes from each the rows it
will write there. -/
theorem wp_barrier (c : Dev nD) :
    iprop(facts m K ∗ Ow c (O₀ c)
        ∗ (cred (tallyAt (barCell c) () 2) ∗ atPos ER (barCell c) 0 ∅ 0
          ∗ (dutyTok ER (barCell (nbr c true)) 0 false ∗ barPay (nbr c true) false)
          ∗ (dutyTok ER (barCell (nbr c false)) 0 true ∗ barPay (nbr c false) true)))
      ⊢ WP c (barrier c) fun _ => iprop(Ow c (owed0 c byPlace) ∗ (atPos ER (barCell c) 1 ∅ 0 ∗ barPay c false ∗ barPay c true)) := by
  unfold barrier Ow
  simp only [semSignalWord, semWaitWord, Prog.lift, Prog.bind_op, Prog.bind_ret, Prog.pure_eq_ret]
  iintro ⟨#HF, ⟨%W, HO⟩, Hc, Hat, ⟨Ht, Hp⟩, Ht', Hp'⟩
  iapply (Rounds.wp_signal 𝒱₀ ER (rd m) (c.tc : Thread nD τ) none (dst := (Dev.tc (nbr c true) : Thread nD τ)) (κ := K (nbr c true, .inl ()))
      (d := false) (by exact mem_bar m _ _) (by exact (amount_bar m (nbr c true) false).trans (by decide)) () (owedB c) rfl) $$ [HO Ht Hp]
  · isplitr; · iapply (facts_inv m K (nbr c true, .inl ())); iexact HF
    isplitl [HO]; · iexact HO
    isplitl [Ht]; · iexact Ht
    isplitl [Hp]; · iapply (Entails.of_eq (payload_bar m (nbr c true) false).symm); iexact Hp
    iapply (facts_reached m K (nbr c true, .inl ())); iexact HF
  iintro HO
  iapply (Rounds.wp_signal 𝒱₀ ER (rd m) (c.tc : Thread nD τ) none (dst := (Dev.tc (nbr c false) : Thread nD τ)) (κ := K (nbr c false, .inl ()))
      (d := true) (by exact mem_bar m _ _) (by exact (amount_bar m (nbr c false) true).trans (by decide)) () (owed0 c byPlace) rfl) $$ [HO Ht' Hp']
  · isplitr; · iapply (facts_inv m K (nbr c false, .inl ())); iexact HF
    isplitl [HO]; · iexact HO
    isplitl [Ht']; · iexact Ht'
    isplitl [Hp']; · iapply (Entails.of_eq (payload_bar m (nbr c false) true).symm); iexact Hp'
    iapply (facts_reached m K (nbr c false, .inl ())); iexact HF
  iintro HO
  iapply (Rounds.wp_wait_rest_token 𝒱₀ ER (rd m) (c.tc : Thread nD τ) none (κ := K (c, .inl ()))
      (wpE_semWait_eq 𝒱₀ (c.tc : Thread nD τ) none Set.univ) (Set.mem_univ _) () (O := owed0 c byPlace) (W := W) (R := 0) (m := 0) (T := ∅)
      (by exact (by decide : 0 + (2#32 : BitVec 32).toNat = 2).trans (expect_bar m c).symm)) $$ [Hc HO Hat]
  · isplitr; · iapply (facts_inv m K (c, .inl ())); iexact HF
    isplitl [Hc]; · iexact Hc
    isplitl [HO]; · iexact HO
    isplitr
    · iapply (mayWait c (.reg barS) (owed0 c byPlace) 1 le_rfl (above_owed0 c _ (by decide))); iapply (facts_lev m K); iexact HF
    iexact Hat
  iintro ⟨HO, Hat, -, Hp⟩
  ihave Hp := (Entails.of_eq (rest_bar m c)) $$ Hp
  rw [wp_ret]
  imodintro
  isplitl [HO]; · iexists _; iexact HO
  isplitl [Hat]; · iexact Hat
  iexact Hp

/-- One turn of the staging loop: the chunk's rows come back, half of its truncated rows stay, and it is sent. -/
theorem wp_stage (c : Dev nD) (i : Ch) (l : List Ch) :
    iprop(facts m K ∗ Ow c (owed0 c (i :: l))
        ∗ ((cred (tallyAt (dmaCell c (.inn i)) () (amt (.inn i))) ∗ atPos ER (dmaCell c (.inn i)) 0 ∅ 0)
          ∗ (∃ f, bPts c i fullShare f) ∗ (∃ f, oPts (nbr c i.1) c 0 i f)
          ∗ dutyTok ER (dmaCell c (.send (0, i))) 0 false ∗ dutyTok ER (recvCell (nbr c i.1) 0 i) 0 false))
      ⊢ WP c (stage c i) fun _ => iprop(Ow c (owed0 c l)
        ∗ (atPos ER (dmaCell c (.inn i)) 1 ∅ 0 ∗ (sPts c i (X m c) ∗ xPts m c i) ∗ bPts c i fullShare.right (B m c)
          ∗ cred (tallyAt (dmaCell c (.send (0, i))) () (amt (.send (0, i)))))) := by
  unfold stage
  rw [WP_bind]
  iintro ⟨#HF, HO, Hw, ⟨%f, Hb⟩, Ho, Ht, Ht'⟩
  ihave Hw := (wp_await m K c (.inn i) (h₁ := View.wordExact_bits rfl) (h₂ := View.wordExact_bits rfl) (a := xC i) (b := sC i) (sC_credit i) (owed0 c (i :: l)) (above_owed0 c _ (by exact Nat.zero_lt_two))) $$ [HO Hw]
  · isplitr; · iexact HF
    isplitl [HO] <;> iassumption
  iapply (WP_wand c) $$ Hw
  iintro %_ ⟨HO, Hat, Hp⟩
  unfold pay sPts
  icases Hp with ⟨Hs, Hx⟩
  rw [WP_bind]
  iapply (Idealize.ShloMosaic.wp_load_rect 𝒱₀ (c.tc : Thread nD τ) none Set.univ
    (m := sM) (r := Rect.unit (s := S8192x1024) ![row i, 0] S512x1024.size (row_inb i)) (by exact subset_refl (sC i).view.set)) $$ Hs
  iintro Hs
  rw [wp_ret]
  imodintro
  rw [WP_bind]
  unfold bPts
  iapply (Idealize.ShloMosaic.wp_load_rect 𝒱₀ (c.tc : Thread nD τ) none Set.univ
    (m := bM) (r := Rect.unit (s := S8192x1024) ![row i, 0] S512x1024.size (row_inb i)) (by exact subset_refl (bC i).view.set)) $$ Hb
  iintro Hb
  rw [wp_ret]
  imodintro
  rw [WP_bind]
  iapply (Idealize.ShloMosaic.wp_store 𝒱₀ (c.tc : Thread nD τ) none Set.univ
    (m := bM) (r := Rect.unit (s := S8192x1024) ![row i, 0] S512x1024.size (row_inb i)) (by exact subset_refl (bC i).view.set)) $$ Hb
  iintro Hb
  rw [wp_ret]
  imodintro
  have hst : ((bC i).view.loc (c.tc : Thread nD τ) ↦[(bC i).view.set]{fullShare}
      (bC i).view.write (Elt F) f (trunc ((sC i).view.read (Elt F) (X m c))) Finset.univ : sProp 𝕄) ⊢ bPts c i fullShare (B m c) :=
    Entails.of_eq (pointsTo_congr (stored m c i f))
  ihave Hb := hst $$ Hb
  ihave Hb := (bPts_halves c i (B m c)) $$ Hb
  icases Hb with ⟨Hl, Hr⟩
  ihave HO := (Entails.of_eq (congrArg (Ow (F := F) c) (owed0_cons c i l))) $$ HO
  have hl : bPts (F := F) c i fullShare.left (B m c) ⊢ sendPay m c 0 i := by unfold sendPay; rw [if_pos rfl]
  ihave Hw := (wp_hop m K c 0 i (h₁ := bC_words i) (h₂ := oC_words c 0 i) (h₃ := ⟨⟨rfl, Or.inl rfl⟩, trivial⟩) (a := bC i) (q := fullShare.left) (fs := B m c) hl (sentOwn m c i) (owed0 c l)) $$ [HO Hl Ho Ht Ht']
  · isplitr; · iexact HF
    isplitl [HO]; · iexact HO
    isplitl [Hl]; · unfold bPts; iexact Hl
    isplitl [Ho]; · iexact Ho
    isplitl [Ht] <;> iassumption
  iapply (WP_wand c) $$ Hw
  iintro %_ ⟨HO, Hc⟩
  isplitl [HO]; · iexact HO
  isplitl [Hat]; · iexact Hat
  isplitl [Hs Hx]; · isplitl [Hs] <;> iassumption
  isplitl [Hr]; · unfold bPts; iexact Hr
  iexact Hc

/-- One turn of a forwarding loop: the chunk of one hop arrives and is sent on at the next. -/
theorem wp_pass (c : Dev nD) (h : Fin 2) (h' h'' : Fin 3) (e : h.castSucc = h') (e' : h.succ = h'') (i : Ch)
    {sp : Space} {sh : Shape} {et : EltTy} {a : Memref sig .tc sp sh et} {h₁ : a.view.WordExact}
    (O : CellTallies nD τ sig Unit) (hO : Above (h'.val + 2) (O + tallyAt (recvCell (nbr c i.1) h'' i) () nHop)) :
    iprop(facts m K ∗ Ow c (O + tallyAt (recvCell (nbr c i.1) h'' i) () nHop)
        ∗ ((cred (tallyAt (dmaCell c (.recv (h', i))) () (amt (.recv (h', i)))) ∗ atPos ER (dmaCell c (.recv (h', i))) 0 ∅ 0)
          ∗ (∃ f, oPts (nbr c i.1) c h'' i f)
          ∗ dutyTok ER (dmaCell c (.send (h'', i))) 0 false ∗ dutyTok ER (recvCell (nbr c i.1) h'' i) 0 false))
      ⊢ WP c (Prog.lift (.waitDma2 (recvS h' i) a (oC c h' i) h₁ (oC_words c h' i)) >>= fun _ => forward c h'' i) fun _ => iprop(Ow c O
        ∗ (atPos ER (dmaCell c (.recv (h', i))) 1 ∅ 0 ∗ cred (tallyAt (dmaCell c (.send (h'', i))) () (amt (.send (h'', i)))))) := by
  subst e e'
  rw [WP_bind]
  iintro ⟨#HF, HO, Hw, Ho, Ht, Ht'⟩
  ihave Hw := (wp_await m K c (.recv (h.castSucc, i)) (h₁ := h₁) (h₂ := oC_words c h.castSucc i) (a := a) (b := oC c h.castSucc i) (oC_credit c h.castSucc i) _ hO) $$ [HO Hw]
  · isplitr; · iexact HF
    isplitl [HO] <;> iassumption
  iapply (WP_wand c) $$ Hw
  iintro %_ ⟨HO, Hat, Hp⟩
  have hp : pay m c (.recv (h.castSucc, i)) ⊢ oPts (F := F) c c h.succ i (G m) := Entails.of_eq (oPts_next c c h i (G m))
  ihave Hp := hp $$ Hp
  have hs : oPts (F := F) c c h.succ i (G m) ⊢ sendPay m c h.succ i := by unfold sendPay; rw [if_neg (Fin.succ_ne_zero h)]
  ihave Hw := (wp_hop m K c h.succ i (h₁ := oC_words c h.succ i) (h₂ := oC_words c h.succ i) (h₃ := ⟨⟨rfl, Or.inl rfl⟩, trivial⟩) (a := oC c h.succ i) (q := fullShare) (fs := G m) hs (sentOn m c h.succ i) O) $$ [HO Hp Ho Ht Ht']
  · isplitr; · iexact HF
    isplitl [HO]; · iexact HO
    isplitl [Hp]; · unfold oPts; iexact Hp
    isplitl [Ho]; · iexact Ho
    isplitl [Ht] <;> iassumption
  iapply (WP_wand c) $$ Hw
  iintro %_ ⟨HO, Hc⟩
  isplitl [HO]; · iexact HO
  isplitl [Hat] <;> iassumption

end Cert.Gather

end
-- ==== Proof.Loops.lean ====
/- The kernel's loops, and its body. -/
module

public import proofs.«01_k».proof.Proof.Turns

@[expose] public section

noncomputable section

namespace Cert.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ
local notation "ℙ" => Prog (TpuEff nD τ sig (Elt F) Λ₀ Proc.tc)

variable (m : (ℓ : Loc nD τ sig) → Buf (Elt F) ℓ) (K : Dev nD × Kc → ℕ)

/-- A conjunct for every chunk. -/
abbrev each (Φ : Ch → sProp 𝕄) : sProp 𝕄 := bigSep Finset.univ Φ

/-- A loop over all the chunks, in any order. -/
theorem wp_each (c : Dev nD) (S : List Ch → sProp 𝕄) (A D : Ch → sProp 𝕄) (f : Ch → ℙ PUnit)
    (step : ∀ i rest, iprop(facts m K ∗ S (i :: rest) ∗ A i) ⊢ WP c (f i) fun _ => iprop(S rest ∗ D i))
    (l : List Ch) (hl : l.Nodup) (hu : l.toFinset = Finset.univ) :
    iprop(facts m K ∗ S l ∗ each A) ⊢ WP c (runL f l) fun _ => iprop(S [] ∗ each D) := by
  have h := wp_runL c (facts m K) S A D f step l hl
  rw [hu] at h
  exact h

/-- Neither order of the loops meets a chunk twice, -/
theorem byPlace_nodup : byPlace.Nodup := by decide
/-- that by direction included; -/
theorem byDir_nodup : byDir.Nodup := by decide
/-- both meet every chunk, -/
theorem byPlace_all : byPlace.toFinset = Finset.univ := by decide
/-- that by direction included. -/
theorem byDir_all : byDir.toFinset = Finset.univ := by decide

/-- All staged copies started. -/
theorem loop_copyIn (c : Dev nD) :
    iprop(facts m K ∗ Ow c (O₀ c) ∗ (each (fun i => xPts m c i) ∗ each (fun i => iprop(∃ f, sPts c i f))
        ∗ each fun i => dutyTok ER (dmaCell c (.inn i)) 0 false))
      ⊢ WP c (runL copyIn byPlace) fun _ => iprop(Ow c (O₀ c) ∗ each fun i => cred (tallyAt (dmaCell c (.inn i)) () (amt (.inn i)))) := by
  have h := wp_each m K c (fun _ => Ow c (O₀ c)) (fun i => iprop(xPts m c i ∗ (∃ f, sPts c i f) ∗ dutyTok ER (dmaCell c (.inn i)) 0 false))
    (fun i => cred (tallyAt (dmaCell c (.inn i)) () (amt (.inn i)))) copyIn (fun i _ => by
      iintro ⟨#HF, HO, HA⟩
      ihave Hw := (wp_copyIn m K c i) $$ [HA]
      · isplitr; · iexact HF
        iexact HA
      iapply (WP_wand c) $$ Hw
      iintro %_ H
      isplitl [HO] <;> iassumption) byPlace byPlace_nodup byPlace_all
  simp only [each, bigSep_sep'] at h ⊢
  exact h

/-- The staging loop. -/
theorem loop_stage (c : Dev nD) :
    iprop(facts m K ∗ Ow c (owed0 c byPlace)
        ∗ ((each (fun i => cred (tallyAt (dmaCell c (.inn i)) () (amt (.inn i)))) ∗ each fun i => atPos ER (dmaCell c (.inn i)) 0 ∅ 0)
          ∗ each (fun i => iprop(∃ f, bPts c i fullShare f)) ∗ each (fun i => iprop(∃ f, oPts (nbr c i.1) c 0 i f))
          ∗ each (fun i => dutyTok ER (dmaCell c (.send (0, i))) 0 false) ∗ each fun i => dutyTok ER (recvCell (nbr c i.1) 0 i) 0 false))
      ⊢ WP c (runL (stage c) byPlace) fun _ => iprop(Ow c (owed1 c byPlace)
        ∗ (each (fun i => atPos ER (dmaCell c (.inn i)) 1 ∅ 0) ∗ (each (fun i => sPts c i (X m c)) ∗ each fun i => xPts m c i)
          ∗ each (fun i => bPts c i fullShare.right (B m c))
          ∗ each fun i => cred (tallyAt (dmaCell c (.send (0, i))) () (amt (.send (0, i)))))) := by
  have h := wp_each m K c (fun l => Ow c (owed0 c l)) _ _ (stage c) (fun i l => wp_stage m K c i l) byPlace byPlace_nodup byPlace_all
  rw [show owed0 c [] = owed1 c byPlace from add_zero _] at h
  simp only [each, bigSep_sep'] at h ⊢
  exact h

/-- The first forwarding loop. -/
theorem loop_first (c : Dev nD) :
    iprop(facts m K ∗ Ow c (owed1 c byPlace)
        ∗ ((each (fun i => cred (tallyAt (dmaCell c (.recv (0, i))) () (amt (.recv (0, i))))) ∗ each fun i => atPos ER (dmaCell c (.recv (0, i))) 0 ∅ 0)
          ∗ each (fun i => iprop(∃ f, oPts (nbr c i.1) c 1 i f))
          ∗ each (fun i => dutyTok ER (dmaCell c (.send (1, i))) 0 false) ∗ each fun i => dutyTok ER (recvCell (nbr c i.1) 1 i) 0 false))
      ⊢ WP c (runL (fun i => do recvFirst c i; forward c 1 i) byPlace) fun _ => iprop(Ow c (owH c 2 byPlace)
        ∗ (each (fun i => atPos ER (dmaCell c (.recv (0, i))) 1 ∅ 0)
          ∗ each fun i => cred (tallyAt (dmaCell c (.send (1, i))) () (amt (.send (1, i)))))) := by
  have h := wp_each m K c (fun l => Ow c (owed1 c l)) _ _ (fun i => do recvFirst c i; forward c 1 i)
    (fun i l => by
      rw [owed1_cons]
      exact wp_pass m K c 0 0 1 rfl rfl i (owed1 c l) (by rw [← owed1_cons]; exact above_owed1 c _ (by decide))) byPlace byPlace_nodup byPlace_all
  rw [show owed1 c [] = owH c 2 byPlace from add_zero _] at h
  simp only [each, bigSep_sep'] at h ⊢
  exact h

/-- The second forwarding loop. -/
theorem loop_second (c : Dev nD) :
    iprop(facts m K ∗ Ow c (owH c 2 byPlace)
        ∗ ((each (fun i => cred (tallyAt (dmaCell c (.recv (1, i))) () (amt (.recv (1, i))))) ∗ each fun i => atPos ER (dmaCell c (.recv (1, i))) 0 ∅ 0)
          ∗ each (fun i => iprop(∃ f, oPts (nbr c i.1) c 2 i f))
          ∗ each (fun i => dutyTok ER (dmaCell c (.send (2, i))) 0 false) ∗ each fun i => dutyTok ER (recvCell (nbr c i.1) 2 i) 0 false))
      ⊢ WP c (runL (fun i => do recvNext c 1 i; forward c 2 i) byPlace) fun _ => iprop(Ow c 0
        ∗ (each (fun i => atPos ER (dmaCell c (.recv (1, i))) 1 ∅ 0)
          ∗ each fun i => cred (tallyAt (dmaCell c (.send (2, i))) () (amt (.send (2, i)))))) := by
  have h := wp_each m K c (fun l => Ow c (owH c 2 l)) _ _ (fun i => do recvNext c 1 i; forward c 2 i)
    (fun i l => wp_pass m K c 1 1 2 rfl rfl i (owH c 2 l) (above_owH c 2 (i :: l) (by decide))) byPlace byPlace_nodup byPlace_all
  simp only [each, bigSep_sep'] at h ⊢
  exact h

/-- A device that owes nothing may wait at every level. -/
theorem above_zero (k : ℕ) : Above k 0 := fun _ _ h => absurd h (Nat.lt_irrefl 0)

/-- A loop of waits, when nothing is owed. -/
theorem loop_await (c : Dev nD) (s : Ch → Sl) (f : Ch → ℙ PUnit)
    (step : ∀ i, iprop(facts m K ∗ Ow c 0 ∗ (cred (tallyAt (dmaCell c (s i)) () (amt (s i))) ∗ atPos ER (dmaCell c (s i)) 0 ∅ 0))
      ⊢ WP c (f i) fun _ => iprop(Ow c 0 ∗ (atPos ER (dmaCell c (s i)) 1 ∅ 0 ∗ pay m c (s i))))
    (l : List Ch) (hl : l.Nodup) (hu : l.toFinset = Finset.univ) :
    iprop(facts m K ∗ Ow c 0 ∗ (each (fun i => cred (tallyAt (dmaCell c (s i)) () (amt (s i)))) ∗ each fun i => atPos ER (dmaCell c (s i)) 0 ∅ 0))
      ⊢ WP c (runL f l) fun _ => iprop(Ow c 0 ∗ (each (fun i => atPos ER (dmaCell c (s i)) 1 ∅ 0) ∗ each fun i => pay m c (s i))) := by
  have h := wp_each m K c (fun _ => Ow c 0) _ _ f (fun i _ => step i) l hl hu
  simp only [each, bigSep_sep'] at h ⊢
  exact h

/-- The waits for the last hop, -/
theorem loop_last (c : Dev nD) :
    iprop(facts m K ∗ Ow c 0 ∗ (each (fun i => cred (tallyAt (dmaCell c (.recv (2, i))) () (amt (.recv (2, i))))) ∗ each fun i => atPos ER (dmaCell c (.recv (2, i))) 0 ∅ 0))
      ⊢ WP c (runL (recvNext c 2) byPlace) fun _ => iprop(Ow c 0 ∗ (each (fun i => atPos ER (dmaCell c (.recv (2, i))) 1 ∅ 0) ∗ each fun i => pay m c (.recv (2, i)))) :=
  loop_await m K c (fun i => .recv (2, i)) (recvNext c 2)
  (fun i => wp_await m K c (.recv (2, i)) (oC_credit c 2 i) 0 (above_zero _)) byPlace byPlace_nodup byPlace_all
/-- for the first hop's sends, -/
theorem loop_sentFirst (c : Dev nD) :
    iprop(facts m K ∗ Ow c 0 ∗ (each (fun i => cred (tallyAt (dmaCell c (.send (0, i))) () (amt (.send (0, i))))) ∗ each fun i => atPos ER (dmaCell c (.send (0, i))) 0 ∅ 0))
      ⊢ WP c (runL (sentFirst c) byDir) fun _ => iprop(Ow c 0 ∗ (each (fun i => atPos ER (dmaCell c (.send (0, i))) 1 ∅ 0) ∗ each fun i => pay m c (.send (0, i)))) :=
  loop_await m K c (fun i => .send (0, i)) (sentFirst c)
  (fun i => wp_await m K c (.send (0, i)) (bC_credit i) 0 (above_zero _)) byDir byDir_nodup byDir_all
/-- and for a later hop's. -/
theorem loop_sentNext (c : Dev nD) (h : Fin 3) :
    iprop(facts m K ∗ Ow c 0 ∗ (each (fun i => cred (tallyAt (dmaCell c (.send (h, i))) () (amt (.send (h, i))))) ∗ each fun i => atPos ER (dmaCell c (.send (h, i))) 0 ∅ 0))
      ⊢ WP c (runL (sentNext c h) byDir) fun _ => iprop(Ow c 0 ∗ (each (fun i => atPos ER (dmaCell c (.send (h, i))) 1 ∅ 0) ∗ each fun i => pay m c (.send (h, i)))) :=
  loop_await m K c (fun i => .send (h, i)) (sentNext c h)
  (fun i => wp_await m K c (.send (h, i)) (oC_credit c h i) 0 (above_zero _)) byDir byDir_nodup byDir_all

end Cert.Gather

end
-- ==== Proof.Whole.lean ====
/- The buffers cut into the pieces that the kernel moves, and joined again. -/
module

public import proofs.«01_k».proof.Proof.Loops
public import Idealize.ShloMosaic.Lib.Ring

@[expose] public section

noncomputable section

namespace Cert.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The chunks' rows -/

/-- A chunk of the argument as a set of places, -/
theorem set_xC (i : Ch) : (xC i).view.set = (Rect.unit (s := S8192x1024) ![row i, 0] S512x1024.size (row_inb i)).set := by
  ext x; exact ValueKit.mem_set_slice_whole_iff main_arg0 _ x Iff.rfl
/-- one of the staging buffer, -/
theorem set_sC (i : Ch) : (sC i).view.set = (Rect.unit (s := S8192x1024) ![row i, 0] S512x1024.size (row_inb i)).set := by
  ext x; exact ValueKit.mem_set_slice_whole_iff cc0_scratch0 _ x Iff.rfl
/-- and one of the truncated buffer. -/
theorem set_bC (i : Ch) : (bC i).view.set = (Rect.unit (s := S8192x1024) ![row i, 0] S512x1024.size (row_inb i)).set := by
  ext x; exact ValueKit.mem_set_slice_whole_iff cc0_scratch1 _ x Iff.rfl

/-- The argument whole is its chunks. -/
theorem x_chunks (c : Dev nD) : ((c.tc : Thread nD τ).loc main_arg0 ↦{fullShare} X m c : sProp 𝕄) = each fun i => xPts m c i := by
  rw [Ring.pointsTo_blocks (fun i : Ch => (Rect.unit (s := S8192x1024) ![row i, 0] S512x1024.size (row_inb i)).set) block_disjoint block_cover]
  refine bigSep_congr fun i _ => ?_
  unfold xPts; rw [set_xC]
/-- So is the staging buffer, -/
theorem s_chunks (c : Dev nD) (f : (cc0_scratch0 : Ref sig .tc).ty.Contents (Elt F)) :
    ((c.tc : Thread nD τ).loc cc0_scratch0 ↦{fullShare} f : sProp 𝕄) = each fun i => sPts c i f := by
  rw [Ring.pointsTo_blocks (fun i : Ch => (Rect.unit (s := S8192x1024) ![row i, 0] S512x1024.size (row_inb i)).set) block_disjoint block_cover]
  refine bigSep_congr fun i _ => ?_
  unfold sPts; rw [set_sC]
/-- and the truncated block, at any share. -/
theorem b_chunks (c : Dev nD) (q : PosShare TreeShare) (f : (cc0_scratch1 : Ref sig .tc).ty.Contents (Elt F)) :
    ((c.tc : Thread nD τ).loc cc0_scratch1 ↦{q} f : sProp 𝕄) = each fun i => bPts c i q f := by
  rw [Ring.pointsTo_blocks (fun i : Ch => (Rect.unit (s := S8192x1024) ![row i, 0] S512x1024.size (row_inb i)).set) block_disjoint block_cover]
  refine bigSep_congr fun i _ => ?_
  unfold bPts; rw [set_bC]
/-- A share of the truncated buffer is that share of each chunk. -/
theorem bAll_eq (c : Dev nD) (q : PosShare TreeShare) : bAll m c q = each fun i => bPts (F := F) c i q (B m c) := by
  rw [← b_chunks]; unfold bAll; rw [show bM.view.set = Finset.univ from View.set_whole _]

/-! ## Splitting over hops -/

/-- A conjunct for every hop and chunk, hop by hop. -/
theorem hops (Φ : Fin 3 × Ch → sProp 𝕄) :
    bigSep Finset.univ Φ = iprop(each (fun i => Φ (0, i)) ∗ each (fun i => Φ (1, i)) ∗ each fun i => Φ (2, i)) := by
  rw [BI.bigSep_univ_prod, bigSep_univ_eq_bigSepL [0, 1, 2] (by decide) (by decide), bigSepL_cons_cons, bigSepL_cons_cons, bigSepL_singleton]
  rfl

/-- A conjunct for every transfer's semaphore, kind by kind and hop by hop. -/
theorem slots (Φ : Sl → sProp 𝕄) :
    bigSep Finset.univ Φ = iprop(Φ .cp ∗ each (fun i => Φ (.inn i))
      ∗ (each (fun i => Φ (.send (0, i))) ∗ each (fun i => Φ (.send (1, i))) ∗ each fun i => Φ (.send (2, i)))
      ∗ each (fun i => Φ (.recv (0, i))) ∗ each (fun i => Φ (.recv (1, i))) ∗ each fun i => Φ (.recv (2, i))) := by
  have h1 : bigSep Finset.univ Φ = _ := BI.bigSep_univ_sum (α := Unit) (β := Ch ⊕ ((Fin 3 × Ch) ⊕ (Fin 3 × Ch))) Φ
  rw [h1, BI.bigSep_univ_sum, BI.bigSep_univ_sum, hops, hops, bigSep_univ_eq_bigSepL [()] (by decide) (by decide), bigSepL_singleton]
  rfl

/-- Conjuncts of the two directions, together by hop and chunk. -/
theorem both (Φ : Bool → Fin 3 × Fin 8 → sProp 𝕄) :
    iprop(bigSep Finset.univ (Φ false) ∗ bigSep Finset.univ (Φ true))
      = bigSep Finset.univ fun p : Fin 3 × Ch => Φ p.2.1 (p.1, p.2.2) := by
  have h := bigSep_univ_eq_bigSepL (M := 𝕄) [false, true] (by decide) (by decide) (fun d => bigSep Finset.univ (Φ d))
  rw [bigSepL_cons_cons, bigSepL_singleton] at h
  refine h.symm.trans ?_
  simp only [BI.bigSep_univ_prod]
  exact BI.bigSep_univ_comm _

/-- What the two neighbours hand over at the barrier, hop by hop. -/
theorem bars (c : Dev nD) :
    iprop(barPay (F := F) c false ∗ barPay c true)
      = iprop(each (fun i => iprop(∃ f, oPts (nbr c i.1) c 0 i f)) ∗ each (fun i => iprop(∃ f, oPts (nbr c i.1) c 1 i f))
        ∗ each fun i => iprop(∃ f, oPts (nbr c i.1) c 2 i f)) :=
  (both fun d p => iprop(∃ f, oPts (F := F) (nbr c d) c p.1 (d, p.2) f)).trans (hops _)

/-- What a device hands its two neighbours: all the rows they write, whatever those hold. -/
theorem bars_paid (c : Dev nD) :
    iprop(barPay (F := F) (nbr c true) false ∗ barPay (nbr c false) true)
      = bigSep Finset.univ fun p : Fin 3 × Ch => iprop(∃ f, oPts c (src c p.2.1) p.1 p.2 f) := by
  have h := both fun d p => iprop(∃ f, oPts (F := F) (nbr (src c d) d) (src c d) p.1 (d, p.2) f)
  simp only [nbr_src] at h
  refine Eq.trans ?_ h
  show iprop(barPay (F := F) (src c false) false ∗ barPay (src c true) true) = _
  unfold barPay
  simp only [nbr_src]

/-! ## The result's pieces -/

/-- A device's result whole is its own block and, per hop and chunk, the rows its neighbour sends it. -/
theorem o_pieces (c : Dev nD) (f : (main_v1 : Ref sig .tc).ty.Contents (Elt F)) :
    ((c.tc : Thread nD τ).loc main_v1 ↦{fullShare} f : sProp 𝕄)
      = iprop((bigSep Finset.univ fun p : Fin 3 × Ch => oPts c (src c p.2.1) p.1 p.2 f) ∗ ownPts c f) := by
  rw [Ring.pointsTo_blocks (piece c) (piece_disjoint c) (piece_cover c), BI.bigSep_univ_equiv (Equiv.optionEquivSumPUnit (Fin 3 × Ch)).symm,
    BI.bigSep_univ_sum, bigSep_univ_eq_bigSepL (I := PUnit.{1}) [PUnit.unit] (by decide) (by decide), bigSepL_singleton]
  rfl

/-- The same by what the device sends on: hops 0 and 1 received are hops 1 and 2 sent. -/
theorem o_final (c : Dev nD) (f : (main_v1 : Ref sig .tc).ty.Contents (Elt F)) :
    ((c.tc : Thread nD τ).loc main_v1 ↦{fullShare} f : sProp 𝕄)
      = iprop((each (fun i => oPts c c 1 i f) ∗ each (fun i => oPts c c 2 i f) ∗ each fun i => oPts c (src c i.1) 2 i f) ∗ ownPts c f) := by
  rw [o_pieces, hops]
  rw [show (each fun i : Ch => oPts (F := F) c (src c i.1) 0 i f) = each fun i => oPts c c 1 i f from bigSep_congr fun i _ => oPts_next c c 0 i f,
    show (each fun i : Ch => oPts (F := F) c (src c i.1) 1 i f) = each fun i => oPts c c 2 i f from bigSep_congr fun i _ => oPts_next c c 1 i f]

/-- A piece at given contents is one at some contents. -/
theorem oPts_some (d c : Dev nD) (h : Fin 3) (i : Ch) (f : (main_v1 : Ref sig .tc).ty.Contents (Elt F)) :
    oPts (F := F) d c h i f ⊢ iprop(∃ g, oPts d c h i g) := by
  iintro H; iexists f; iexact H

/-- The rows a device hands over at the barrier, to both its neighbours, are all but its own block. -/
theorem o_start (c : Dev nD) (f : (main_v1 : Ref sig .tc).ty.Contents (Elt F)) :
    ((c.tc : Thread nD τ).loc main_v1 ↦{fullShare} f : sProp 𝕄)
      ⊢ iprop((barPay (nbr c true) false ∗ barPay (nbr c false) true) ∗ ∃ g, ownPts c g) := by
  rw [bars_paid, o_pieces]
  have h : (bigSep Finset.univ fun p : Fin 3 × Ch => oPts (F := F) c (src c p.2.1) p.1 p.2 f)
      ⊢ bigSep Finset.univ fun p : Fin 3 × Ch => iprop(∃ f, oPts c (src c p.2.1) p.1 p.2 f) :=
    bigSep_mono fun p _ => oPts_some c _ _ _ f
  iintro ⟨H, H'⟩
  isplitl [H]
  · iapply h; iexact H
  · iexists f; iexact H'

end Cert.Gather

end
-- ==== Proof.StepsEq.lean ====
/- The printed kernel body is the grouped program of `Steps`. -/
module

public import proofs.«01_k».proof.Proof.Steps
public import Idealize.ShloMosaic.Lib.Pipeline.Regions

@[expose] public section

noncomputable section

namespace Cert.Gather

open Idealize.ShloMosaic Idealize.ShloMosaic.TcCoe Idealize.SL.Sem
open Cert.KernelIdeal Cert.KernelIdeal.Gen

variable {F : FTy → Type} [FloatOps F]

/-- The printed body, at the grid's one point, is `body`: the same operations in the same order. -/
theorem body_eq (t : Fin cfg0.N) : bodyAt0 (F := F) t = body := by
  chain_rfl

end Cert.Gather

end
-- ==== Proof.Body.lean ====
/- The body of the kernel, from what a device holds at its start to what it holds at its end. -/
module

public import proofs.«01_k».proof.Proof.Whole
public import proofs.«01_k».proof.Proof.StepsEq

@[expose] public section

noncomputable section

namespace Cert.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ
local notation "ℙ" => Prog (TpuEff nD τ sig (Elt F) Λ₀ Proc.tc)

variable (m : (ℓ : Loc nD τ sig) → Buf (Elt F) ℓ) (K : Dev nD × Kc → ℕ)

/-- The cell whose duty device `c` pays with the transfer on semaphore `s`: a neighbour's for a receive, else its own. -/
def paid (c : Dev nD) : Sl → GSem nD τ sig
  | .recv p => recvCell (nbr c p.2.1) p.1 p.2
  | s => dmaCell c s

/-- What a device pays with: a token for each duty it discharges. -/
def tokens (c : Dev nD) : sProp 𝕄 :=
  iprop((dutyTok ER (barCell (nbr c true)) 0 false ∗ dutyTok ER (barCell (nbr c false)) 0 true)
    ∗ bigSep Finset.univ fun s : Sl => dutyTok ER (paid c s) 0 false)

/-- Every cell of a device at its round `r`. -/
def places (c : Dev nD) (r : ℕ) : sProp 𝕄 :=
  iprop(atPos ER (barCell c) r ∅ 0 ∗ bigSep Finset.univ fun s : Sl => atPos ER (dmaCell c s) r ∅ 0)

/-- What a device may wait for: both neighbours' signals, and every chunk at every hop. -/
def hopes (c : Dev nD) : sProp 𝕄 :=
  iprop(cred (tallyAt (barCell c) () 2) ∗ bigSep Finset.univ fun p : Fin 3 × Ch => cred (tallyAt (recvCell c p.1 p.2) () nHop))

/-- What a device holds of the buffers at its start, -/
def before (c : Dev nD) : sProp 𝕄 :=
  iprop(((c.tc : Thread nD τ).loc main_arg0 ↦{fullShare} X m c)
    ∗ (∃ f, (c.tc : Thread nD τ).loc main_v1 ↦{fullShare} f)
    ∗ (∃ f, (c.tc : Thread nD τ).loc cc0_scratch0 ↦{fullShare} f)
    ∗ (∃ f, (c.tc : Thread nD τ).loc cc0_scratch1 ↦{fullShare} f))
/-- and at its end. -/
def after (c : Dev nD) : sProp 𝕄 :=
  iprop(((c.tc : Thread nD τ).loc main_arg0 ↦{fullShare} X m c)
    ∗ ((c.tc : Thread nD τ).loc main_v1 ↦{fullShare} G m)
    ∗ (∃ f, (c.tc : Thread nD τ).loc cc0_scratch0 ↦{fullShare} f)
    ∗ (∃ f, (c.tc : Thread nD τ).loc cc0_scratch1 ↦{fullShare} f))

/-- The staging buffer at some contents is its chunks, each at some contents. -/
theorem s_before (c : Dev nD) (f : (cc0_scratch0 : Ref sig .tc).ty.Contents (Elt F)) :
    ((c.tc : Thread nD τ).loc cc0_scratch0 ↦{fullShare} f : sProp 𝕄) ⊢ each fun i => iprop(∃ f, sPts c i f) := by
  rw [s_chunks]
  have h : ∀ i, sPts (F := F) c i f ⊢ iprop(∃ f, sPts c i f) := fun i => by iintro H; iexists f; iexact H
  exact bigSep_mono fun i _ => h i
/-- The truncated buffer at some contents is its chunks, each at some contents. -/
theorem b_before (c : Dev nD) (f : (cc0_scratch1 : Ref sig .tc).ty.Contents (Elt F)) :
    ((c.tc : Thread nD τ).loc cc0_scratch1 ↦{fullShare} f : sProp 𝕄) ⊢ each fun i => iprop(∃ f, bPts c i fullShare f) := by
  rw [b_chunks]
  have h : ∀ i, bPts (F := F) c i fullShare f ⊢ iprop(∃ f, bPts c i fullShare f) := fun i => by iintro H; iexists f; iexact H
  exact bigSep_mono fun i _ => h i

/-- The two halves of the truncated block make it whole. -/
theorem b_after (c : Dev nD) :
    iprop((each fun i => bPts c i fullShare.left (B m c)) ∗ bAll m c fullShare.right)
      ⊢ ((c.tc : Thread nD τ).loc cc0_scratch1 ↦{fullShare} B m c : sProp 𝕄) := by
  rw [bAll_eq, ← b_chunks, ← b_chunks]
  exact (pointsTo_share (PosShare.mem_left_op_right fullShare)).2

/-- A finished send of hop 0 gives back half a share of the truncated chunk; -/
theorem pay_send0 (c : Dev nD) : (each fun i => pay (F := F) m c (.send (0, i))) = each fun i => bPts c i fullShare.left (B m c) :=
  bigSep_congr fun i _ => by show sendPay m c 0 i = _; unfold sendPay; exact if_pos rfl
/-- one of hop 1 the rows of the result that it read, -/
theorem pay_send1 (c : Dev nD) : (each fun i => pay (F := F) m c (.send (1, i))) = each fun i => oPts c c 1 i (G m) :=
  bigSep_congr fun i _ => by show sendPay m c 1 i = _; unfold sendPay; exact if_neg (by decide)
/-- and one of hop 2 too. -/
theorem pay_send2 (c : Dev nD) : (each fun i => pay (F := F) m c (.send (2, i))) = each fun i => oPts c c 2 i (G m) :=
  bigSep_congr fun i _ => by show sendPay m c 2 i = _; unfold sendPay; exact if_neg (by decide)

/-- A program after another. -/
theorem WP_then (c : Dev nD) (p q : ℙ PUnit) (Q Q' : sProp 𝕄) :
    WP c p (fun _ => Q) ⊢ iprop((Q -∗ WP c q fun _ => Q') -∗ WP c (p >>= fun _ => q) fun _ => Q') := by
  rw [WP_bind]
  iintro Hw Hk
  iapply (WP_wand c) $$ Hw
  iintro %_ H
  iapply Hk; iexact H

/-- The body gathers: with the tokens of its duties, its cells at their first round and the credits of what it awaits,
a device ends holding every device's block truncated, its argument as before, and owing nothing. -/
theorem wp_body (c : Dev nD) :
    iprop(facts m K ∗ Ow c (O₀ c) ∗ before m c ∗ tokens c ∗ places c 0 ∗ hopes c)
      ⊢ WP c body fun _ => iprop(Ow c 0 ∗ after m c ∗ places c 1) := by
  unfold before tokens places hopes
  rw [slots (fun s => dutyTok ER (paid c s) 0 false), slots (fun s => atPos ER (dmaCell c s) 0 ∅ 0), hops, x_chunks]
  simp only [paid]
  iintro ⟨#HF, HO, ⟨Hx, ⟨%fo, Ho⟩, ⟨%fs, Hs⟩, ⟨%fb, Hb⟩⟩, ⟨⟨Htp, Htn⟩, Htc, Hti, ⟨Hts0, Hts1, Hts2⟩, Htr0, Htr1, Htr2⟩,
    ⟨HaB, Hac, Hai, ⟨Has0, Has1, Has2⟩, Har0, Har1, Har2⟩, HcB, Hcr0, Hcr1, Hcr2⟩
  ihave Hs := (s_before c fs) $$ Hs
  ihave Hb := (b_before c fb) $$ Hb
  ihave Ho := (o_start c fo) $$ Ho
  icases Ho with ⟨⟨HpT, HpF⟩, Hown⟩
  unfold body
  simp only [Prog.lift, Prog.bind_op, Prog.bind_ret, wp_deviceId]
  -- the staged copies
  ihave Hw := (loop_copyIn m K c) $$ [HO Hx Hs Hti]
  · isplitr; · iexact HF
    isplitl [HO]; · iexact HO
    isplitl [Hx]; · iexact Hx
    isplitl [Hs] <;> iassumption
  iapply (WP_then c) $$ Hw
  iintro ⟨HO, Hci⟩
  -- the barrier
  ihave Hw := (wp_barrier m K c) $$ [HO HcB HaB Htp HpT Htn HpF]
  · isplitr; · iexact HF
    isplitl [HO]; · iexact HO
    isplitl [HcB]; · iexact HcB
    isplitl [HaB]; · iexact HaB
    isplitl [Htp HpT]; · isplitl [Htp] <;> iassumption
    isplitl [Htn] <;> iassumption
  iapply (WP_then c) $$ Hw
  iintro ⟨HO, HaB, Hp⟩
  ihave Hp := (Entails.of_eq (bars c)) $$ Hp
  icases Hp with ⟨Ho0, Ho1, Ho2⟩
  -- the staging loop
  ihave Hw := (loop_stage m K c) $$ [HO Hci Hai Hb Ho0 Hts0 Htr0]
  · isplitr; · iexact HF
    isplitl [HO]; · iexact HO
    isplitl [Hci Hai]; · isplitl [Hci] <;> iassumption
    isplitl [Hb]; · iexact Hb
    isplitl [Ho0]; · iexact Ho0
    isplitl [Hts0]; · iexact Hts0
    iexact Htr0
  iapply (WP_then c) $$ Hw
  iintro ⟨HO, Hai, ⟨Hs, Hx⟩, Hbr, Hcs0⟩
  ihave Hbr := (Entails.of_eq (bAll_eq m c fullShare.right).symm) $$ Hbr
  -- the copy of the own block
  ihave Hw := (wp_copyOut m K c) $$ [Hbr Hown Htc]
  · isplitr; · iexact HF
    isplitl [Hbr]; · iexact Hbr
    isplitl [Hown] <;> iassumption
  iapply (WP_then c) $$ Hw
  iintro Hcc
  -- the forwarding loops
  ihave Hw := (loop_first m K c) $$ [HO Hcr0 Har0 Ho1 Hts1 Htr1]
  · isplitr; · iexact HF
    isplitl [HO]; · iexact HO
    isplitl [Hcr0 Har0]
    · isplitl [Hcr0]; · iexact Hcr0
      iexact Har0
    isplitl [Ho1]; · iexact Ho1
    isplitl [Hts1]; · iexact Hts1
    iexact Htr1
  iapply (WP_then c) $$ Hw
  iintro ⟨HO, Har0, Hcs1⟩
  -- and the second
  ihave Hw := (loop_second m K c) $$ [HO Hcr1 Har1 Ho2 Hts2 Htr2]
  · isplitr; · iexact HF
    isplitl [HO]; · iexact HO
    isplitl [Hcr1 Har1]
    · isplitl [Hcr1]; · iexact Hcr1
      iexact Har1
    isplitl [Ho2]; · iexact Ho2
    isplitl [Hts2]; · iexact Hts2
    iexact Htr2
  iapply (WP_then c) $$ Hw
  iintro ⟨HO, Har1, Hcs2⟩
  -- the last hop's arrivals
  ihave Hw := (loop_last m K c) $$ [HO Hcr2 Har2]
  · isplitr; · iexact HF
    isplitl [HO]; · iexact HO
    isplitl [Hcr2]; · iexact Hcr2
    iexact Har2
  iapply (WP_then c) $$ Hw
  iintro ⟨HO, Har2, Hg2⟩
  -- the sends' waits
  ihave Hw := (loop_sentFirst m K c) $$ [HO Hcs0 Has0]
  · isplitr; · iexact HF
    isplitl [HO]; · iexact HO
    isplitl [Hcs0]; · iexact Hcs0
    iexact Has0
  iapply (WP_then c) $$ Hw
  iintro ⟨HO, Has0, Hg0⟩
  -- hop 1
  ihave Hw := (loop_sentNext m K c 1) $$ [HO Hcs1 Has1]
  · isplitr; · iexact HF
    isplitl [HO]; · iexact HO
    isplitl [Hcs1]; · iexact Hcs1
    iexact Has1
  iapply (WP_then c) $$ Hw
  iintro ⟨HO, Has1, Hgs1⟩
  -- hop 2
  ihave Hw := (loop_sentNext m K c 2) $$ [HO Hcs2 Has2]
  · isplitr; · iexact HF
    isplitl [HO]; · iexact HO
    isplitl [Hcs2]; · iexact Hcs2
    iexact Has2
  iapply (WP_then c) $$ Hw
  iintro ⟨HO, Has2, Hgs2⟩
  -- the own block's copy
  ihave Hw := (wp_await m K c .cp (h₁ := (Memref.isWhole_whole _).wordExact) (h₂ := (Memref.isWhole_whole _).wordExact_slice rfl _ (k0_off3_wordsbf16 c))
      (a := bM) (b := oOwn c) (oOwn_credit c) 0 (above_zero _)) $$ [HO Hcc Hac]
  · isplitr; · iexact HF
    isplitl [HO]; · iexact HO
    isplitl [Hcc] <;> iassumption
  iapply (WP_wand c) $$ Hw
  iintro %_ ⟨HO, Hac, Hgc⟩
  have hcp : pay (F := F) m c .cp = iprop(ownPts c (G m) ∗ bAll m c fullShare.right) := rfl
  ihave Hgc := (Entails.of_eq hcp) $$ Hgc
  icases Hgc with ⟨Hown, Hbr⟩
  ihave Hg0 := (Entails.of_eq (pay_send0 m c)) $$ Hg0
  ihave Hgs1 := (Entails.of_eq (pay_send1 m c)) $$ Hgs1
  ihave Hgs2 := (Entails.of_eq (pay_send2 m c)) $$ Hgs2
  isplitl [HO]; · iexact HO
  isplitl [Hx Hs Hg0 Hbr Hown Hgs1 Hgs2 Hg2]
  · unfold after
    isplitl [Hx]; · rw [x_chunks]; iexact Hx
    isplitl [Hown Hgs1 Hgs2 Hg2]
    · rw [o_final]
      isplitr [Hown]
      · isplitl [Hgs1]; · iexact Hgs1
        isplitl [Hgs2]; · iexact Hgs2
        iexact Hg2
      · iexact Hown
    isplitl [Hs]
    · iexists X m c; rw [s_chunks]; iexact Hs
    · iexists B m c; iapply (b_after m c)
      isplitl [Hg0] <;> iassumption
  rw [slots (fun s => atPos ER (dmaCell c s) 1 ∅ 0)]
  isplitl [HaB]; · iexact HaB
  isplitl [Hac]; · iexact Hac
  isplitl [Hai]; · iexact Hai
  isplitl [Has0 Has1 Has2]
  · isplitl [Has0]; · iexact Has0
    isplitl [Has1] <;> iassumption
  isplitl [Har0]; · iexact Har0
  isplitl [Har1] <;> iassumption

end Cert.Gather

end
-- ==== Proof.Deal.lean ====
/- How the launch deals the devices their cells, tokens and credits. -/
module

public import proofs.«01_k».proof.Proof.Body
public import proofs.«01_k».proof.Proof.Gen.KernelIdeal.Launch

@[expose] public section

noncomputable section

namespace Cert.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Cells and tokens -/

/-- The semaphores that are the kernel's own. -/
abbrev osem : Sl → SemLoc sig := fun s => .dma (semOf s)
/-- They are all of the kernel's scoped semaphores, each once. -/
theorem ownSemFacts : Pipeline.OwnSemFacts cfg0.spec osem := by decide +kernel

/-- The semaphores of all devices that the schedule runs. -/
def cells : Finset (GSem nD τ sig) := Finset.univ.map ⟨kcell, kcell_inj⟩

/-- The duties of a device's own cells: its barrier's two, its transfers' one each. -/
def tokOf (cj : Dev nD × (Bool ⊕ Sl)) : GSem nD τ sig × ℕ × Bool := match cj.2 with
  | .inl d => (barCell cj.1, 0, d)
  | .inr s => (dmaCell cj.1 s, 0, false)
/-- No duty is named twice. -/
theorem tokOf_inj : Function.Injective tokOf := by
  rintro ⟨c, j⟩ ⟨c', j'⟩ h
  match j, j' with
  | .inl d, .inl d' =>
    have h1 : c = c' := congrArg (fun x : GSem nD τ sig × ℕ × Bool => x.1.1.1) h
    have h2 : d = d' := congrArg (fun x : GSem nD τ sig × ℕ × Bool => x.2.2) h
    rw [h1, h2]
  | .inl d, .inr s => exact absurd (congrArg (fun x : GSem nD τ sig × ℕ × Bool => x.1.2) h) (fun h' => by cases h')
  | .inr s, .inl d => exact absurd (congrArg (fun x : GSem nD τ sig × ℕ × Bool => x.1.2) h) (fun h' => by cases h')
  | .inr s, .inr s' =>
    have h1 : ((c, Sum.inr s) : Dev nD × Kc) = (c', .inr s') := kcell_inj (congrArg Prod.fst h)
    have h2 : c = c' := congrArg Prod.fst h1
    have h3 : s = s' := Sum.inr.inj (congrArg Prod.snd h1)
    rw [h2, h3]
/-- All duties. -/
def toks : Finset (GSem nD τ sig × ℕ × Bool) := Finset.univ.map ⟨tokOf, tokOf_inj⟩

/-- The ghost state at launch: the launch's own, and every cell of the schedule at round 0 with its duties' tokens. -/
def u₀ : UU :=
  (initOf (Pipeline.cells cfgs cellOf_inj) (Pipeline.launchToks cfgs cellOf_inj), initOf cells toks)

/-- The tokens of the duties on device `c`'s own cells. -/
def minted (c : Dev nD) : sProp 𝕄 :=
  iprop((dutyTok ER (barCell c) 0 false ∗ dutyTok ER (barCell c) 0 true) ∗ bigSep Finset.univ fun s : Sl => dutyTok ER (dmaCell c s) 0 false)

/-- What the launch deals each device. -/
def dealt (c : Dev nD) : sProp 𝕄 :=
  iprop((bigSep Finset.univ fun k : Kc => roundState ER (rd m) (kcell (c, k)) 0)
    ∗ (bigSep Finset.univ fun k : Kc => iprop(atPos ER (kcell (c, k)) 0 ∅ 0 ∗ reached ER (kcell (c, k)) 0)) ∗ minted c)

/-- The cells' records without the levels. -/
def records (K : Dev nD × Kc → ℕ) : sProp 𝕄 :=
  iprop((bigSep Finset.univ fun ck : Dev nD × Kc => cellInv ER (rd m) (K ck) (kcell ck))
    ∗ (bigSep Finset.univ fun ck : Dev nD × Kc => reached ER (kcell ck) 0))
instance records_persistent (K : Dev nD × Kc → ℕ) : BI.Persistent (records m K) := by unfold records; infer_instance

/-- What a device starts its body with: the records, its places and the tokens it pays with. -/
def armed (c : Dev nD) : sProp 𝕄 := iprop(∃ K, records m K ∗ places c 0 ∗ tokens c)

/-- The schedule's ghost state is what each device is dealt. -/
theorem fund : BI.own (ER (initOf cells toks)) ⊢ (|==> bigSep Finset.univ (dealt m) : sProp 𝕄) := by
  have hX (Φ : GSem nD τ sig → sProp 𝕄) : bigSep cells Φ = bigSep Finset.univ fun c : Dev nD => bigSep Finset.univ fun k : Kc => Φ (kcell (c, k)) := by
    unfold cells; rw [bigSep_map, BI.bigSep_univ_prod]; rfl
  have hT : bigSep toks (fun x => (dutyTok ER x.1 x.2.1 x.2.2 : sProp 𝕄)) = bigSep Finset.univ fun c : Dev nD => minted c := by
    unfold toks; rw [bigSep_map, BI.bigSep_univ_prod]
    refine bigSep_congr fun c _ => ?_
    rw [BI.bigSep_univ_sum, bigSep_univ_eq_bigSepL [false, true] (by decide) (by decide), bigSepL_cons_cons, bigSepL_singleton]
    rfl
  iintro HX
  imod (Rounds.fund ER (rd m) cells toks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat] <;> iassumption
  iexact Htok

/-- A conjunct for every cell of a device: its barrier's and its transfers'. -/
theorem kcells (Φ : Kc → sProp 𝕄) : bigSep Finset.univ Φ = iprop(Φ (.inl ()) ∗ bigSep Finset.univ fun s : Sl => Φ (.inr s)) := by
  rw [BI.bigSep_univ_sum, bigSep_univ_eq_bigSepL [()] (by decide) (by decide), bigSepL_singleton]
  rfl

/-- The one semaphore that outlives the kernel is the barrier's. -/
theorem unscopedSems0_bar (c : Dev nD) : (unscopedSems0 c : sProp 𝕄) = semVal (barCell c) 0 := by
  unfold unscopedSems0; rw [bigSep_eq_bigSepL_of_eq [SemLoc.reg barS] (by decide +kernel) (by decide)]; rfl

/-- A device's semaphores at zero are its cells' counters at zero. -/
theorem sems0 (c : Dev nD) :
    iprop(unscopedSems0 c ∗ Pipeline.ownSems0 (Ix := Unit) (Name := ℕ) (U := UU) (Lvl := ℕ) (Val := Elt F) (τ := τ) osem c)
      = (bigSep Finset.univ fun k : Kc => semVal (kcell (c, k)) 0 : sProp 𝕄) := by
  rw [unscopedSems0_bar, kcells]; rfl

/-- A device's semaphores at zero and what it is dealt make its cells. -/
theorem alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ minted c) := by
  have hopen : iprop((bigSep Finset.univ fun k : Kc => semVal (kcell (c, k)) 0) ∗ bigSep Finset.univ fun k : Kc => roundState ER (rd m) (kcell (c, k)) 0)
      ⊢ (|={Set.univ}=> bigSep Finset.univ fun k => iprop(∃ κ : ℕ, cellInv ER (rd m) κ (kcell (c, k))) : sProp 𝕄) := by
    rw [← bigSep_sep']
    exact (bigSep_mono fun k _ => (Rounds.body_intro ER (rd m) (kcell (c, k))).trans inv_alloc).trans (bigSep_fupd _ _)
  unfold dealt
  iintro ⟨Hos, Hus, Hst, Hat, Htok⟩
  ihave Hv := (Entails.of_eq (sems0 (F := F) c)) $$ [Hos Hus]
  · isplitl [Hus] <;> iassumption
  imod hopen $$ [Hv Hst] with Hinv
  · isplitl [Hv] <;> iassumption
  imodintro
  isplitl [Hinv]; · iexact Hinv
  isplitl [Hat]; · iexact Hat
  iexact Htok

/-- The tokens go to the devices that pay with them. -/
theorem toks_around : (bigSep Finset.univ fun c : Dev nD => (minted c : sProp 𝕄)) = bigSep Finset.univ fun c : Dev nD => tokens c := by
  have turned (d : Bool) (Φ : Dev nD → sProp 𝕄) : bigSep Finset.univ Φ = bigSep Finset.univ fun c => Φ (nbr c d) :=
    BI.bigSep_univ_equiv (turn d) Φ
  unfold minted tokens
  simp only [bigSep_sep']
  rw [turned true (fun c => dutyTok ER (barCell c) 0 false), turned false (fun c => dutyTok ER (barCell c) 0 true),
    BI.bigSep_univ_comm (fun (c : Dev nD) (s : Sl) => (dutyTok ER (dmaCell c s) 0 false : sProp 𝕄)),
    BI.bigSep_univ_comm (fun (c : Dev nD) (s : Sl) => (dutyTok ER (paid c s) 0 false : sProp 𝕄))]
  congr 1
  refine bigSep_congr fun s _ => ?_
  match s with
  | .cp => rfl
  | .inn i => rfl
  | .send p => rfl
  | .recv p => exact turned p.2.1 (fun c => dutyTok ER (recvCell c p.1 p.2) 0 false)

/-- The records, a device's places and its tokens are what it starts with. -/
theorem armed_intro (K : Dev nD × Kc → ℕ) (c : Dev nD) : iprop(records m K ∗ (places c 0 ∗ tokens c)) ⊢ armed m c := by
  unfold armed
  iintro H; iexists K; iexact H

/-- All devices' cells, places and tokens make what each device starts with. -/
theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ minted c) : sProp 𝕄)
      ⊢ bigSep Finset.univ (armed m) := by
  simp only [bigSep_sep']
  rw [← BI.bigSep_univ_prod (fun ck : Dev nD × Kc => iprop(∃ κ : ℕ, cellInv ER (rd m) κ (kcell ck))),
    ← BI.bigSep_univ_prod (fun ck : Dev nD × Kc => (reached ER (kcell ck) 0 : sProp 𝕄)), toks_around]
  iintro ⟨HI, ⟨Hat, #HR⟩, Htok⟩
  ihave HK := (BI.bigSep_exists_pi Finset.univ (fun (ck : Dev nD × Kc) (κ : ℕ) => (cellInv ER (rd m) κ (kcell ck) : sProp 𝕄))) $$ HI
  icases HK with ⟨%K, #HI⟩
  iapply (bigSep_with_persistent (R := records m K) fun c _ => armed_intro m K c)
  isplitr
  · unfold records; isplitl; · iexact HI
    iexact HR
  rw [bigSep_sep']
  isplitl [Hat]
  · have h : (bigSep Finset.univ fun c : Dev nD => bigSep Finset.univ fun k : Kc => (atPos ER (kcell (c, k)) 0 ∅ 0 : sProp 𝕄))
        = bigSep Finset.univ fun c : Dev nD => places c 0 := bigSep_congr fun c _ => by unfold places; rw [kcells]
    iapply (Entails.of_eq h); iexact Hat
  iexact Htok

/-- The step over all devices at once: the semaphores become cells, the tokens go around. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (armed m) :=
  ((bigSep_mono fun c _ => alloc m c).trans (bigSep_fupd _ _)).trans (BI.fupd_mono (regroup m))

/-! ## The credits -/

/-- No hop owes a barrier. -/
theorem owH_bar (d c : Dev nD) (h : Fin 3) (l : List Ch) : owH d h l (barCell c) () = 0 := by
  by_contra hne
  obtain ⟨i, hi⟩ := owH_pos (Nat.pos_of_ne_zero hne)
  exact absurd (congrArg Prod.snd hi) (fun h' => by cases h')

/-- A receive semaphore names its device, hop and chunk. -/
theorem recvCell_inj {c c' : Dev nD} {h h' : Fin 3} {i i' : Ch} (e : recvCell c h i = recvCell c' h' i') : c = c' ∧ h = h' ∧ i = i' := by
  have h1 : ((c, .inr (.recv (h, i))) : Dev nD × Kc) = (c', .inr (.recv (h', i'))) := kcell_inj e
  have h2 : (Sum.inr (Sl.recv (h, i)) : Kc) = .inr (.recv (h', i')) := congrArg Prod.snd h1
  have h3 : (h, i) = (h', i') := Sum.inr.inj (Sum.inr.inj (Sum.inr.inj (Sum.inr.inj h2)))
  exact ⟨congrArg Prod.fst h1, congrArg Prod.fst h3, congrArg Prod.snd h3⟩

/-- A hop owes nothing to a receive semaphore of another hop, another neighbour or a chunk that is not left to send; -/
theorem owH_other (d c : Dev nD) (h h' : Fin 3) (i : Ch) (l : List Ch) (hn : ¬(h' = h ∧ nbr d i.1 = c ∧ i ∈ l)) :
    owH d h' l (recvCell c h i) () = 0 := by
  induction l with
  | nil => rfl
  | cons j l ih =>
    unfold owH
    rw [Pi.add_apply, Finsupp.add_apply, ih (fun ⟨a, b, e⟩ => hn ⟨a, b, List.mem_cons_of_mem _ e⟩), tallyAt_apply, if_neg, Nat.add_zero]
    rintro ⟨e, -⟩
    obtain ⟨rfl, rfl, rfl⟩ := recvCell_inj e
    exact hn ⟨rfl, rfl, List.mem_cons_self⟩

/-- to that of a chunk left to send it owes the chunk's credit. -/
theorem owH_one (d : Dev nD) (h : Fin 3) (i : Ch) (l : List Ch) (hl : l.Nodup) (hi : i ∈ l) :
    owH d h l (recvCell (nbr d i.1) h i) () = nHop := by
  induction l with
  | nil => exact absurd hi List.not_mem_nil
  | cons j l ih =>
    unfold owH
    rw [Pi.add_apply, Finsupp.add_apply, tallyAt_apply]
    rcases List.mem_cons.mp hi with rfl | hi
    · rw [owH_other _ _ _ _ _ _ (fun ⟨_, _, e⟩ => (List.nodup_cons.mp hl).1 e), if_pos ⟨rfl, rfl⟩, Nat.zero_add]
    · rw [ih (List.nodup_cons.mp hl).2 hi, if_neg, Nat.add_zero]
      rintro ⟨e, -⟩
      exact (List.nodup_cons.mp hl).1 ((recvCell_inj e).2.2 ▸ hi)

/-- The order of the loops meets every chunk. -/
theorem mem_byPlace (i : Ch) : i ∈ byPlace := by
  rw [← List.mem_toFinset, byPlace_all]; exact Finset.mem_univ _

/-- `c` is where `d` sends exactly if `d` is where `c` receives from. -/
theorem src_iff (d c : Dev nD) (b : Bool) : nbr d b = c ↔ d = src c b :=
  ⟨fun h => by rw [← h, src_nbr], fun h => by rw [h, nbr_src]⟩

/-- What a device owes a semaphore at launch: three hops and two barrier signals. -/
theorem O₀_apply (d : Dev nD) (g : GSem nD τ sig) : O₀ d g () = owH d 2 byPlace g () + owH d 1 byPlace g () + owH d 0 byPlace g ()
    + tallyAt (barCell (nbr d false)) () 1 g () + tallyAt (barCell (nbr d true)) () 1 g () := rfl

/-- A device owes a barrier one unit for each side on which it is the barrier's neighbour. -/
theorem owed_bar (d c : Dev nD) : O₀ d (barCell c) () = (if d = src c false then 1 else 0) + (if d = src c true then 1 else 0) := by
  have hb (b : Bool) : (tallyAt (barCell (nbr d b)) () 1 : CellTallies nD τ sig Unit) (barCell c) () = if d = src c b then 1 else 0 := by
    rw [tallyAt_apply]
    refine if_congr ?_ rfl rfl
    rw [← src_iff]
    exact ⟨fun h => (congrArg (fun g : GSem nD τ sig => g.1.1) h.1).symm, fun h => ⟨by rw [h], rfl⟩⟩
  rw [O₀_apply, owH_bar, owH_bar, owH_bar, hb, hb, Nat.zero_add]

/-- A device owes a receive semaphore the chunk's credit exactly if it is the sender. -/
theorem owed_recv (d c : Dev nD) (h : Fin 3) (i : Ch) : O₀ d (recvCell c h i) () = if d = src c i.1 then nHop else 0 := by
  have hb (b : Bool) : (tallyAt (barCell (nbr d b)) () 1 : CellTallies nD τ sig Unit) (recvCell c h i) () = 0 := by
    rw [tallyAt_apply, if_neg (fun e => absurd (congrArg Prod.snd e.1) (fun h' => by cases h'))]
  rw [O₀_apply, hb, hb]
  by_cases hd : d = src c i.1
  · have hc := (src_iff d c i.1).mpr hd
    rw [if_pos hd]
    have ho (h' : Fin 3) (hn : h' ≠ h) : owH d h' byPlace (recvCell c h i) () = 0 := owH_other d c h h' i _ (fun e => hn e.1)
    have h1 : owH d h byPlace (recvCell c h i) () = nHop := by rw [← hc]; exact owH_one d h i _ byPlace_nodup (mem_byPlace i)
    fin_cases h
    · rw [ho 2 (by decide), ho 1 (by decide)]; simpa using h1
    · rw [ho 2 (by decide), ho 0 (by decide)]; simpa using h1
    · rw [ho 1 (by decide), ho 0 (by decide)]; simpa using h1
  · rw [if_neg hd]
    have ho (h' : Fin 3) : owH d h' byPlace (recvCell c h i) () = 0 := owH_other d c h h' i _ (fun e => hd ((src_iff d c i.1).mp e.2.1))
    rw [ho, ho, ho]

/-- So a barrier has two units to come, -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (src c false) fun _ => 1, Finset.sum_ite_eq' Finset.univ (src c true) fun _ => 1, if_pos (Finset.mem_univ _), if_pos (Finset.mem_univ _)]

/-- and a receive semaphore one chunk's credit. -/
theorem launch_recv (c : Dev nD) (p : Fin 3 × Ch) :
    tallyOn (recvCell c p.1 p.2) (launchCredit (Pipeline.owing O₀) 0 (recvCell c p.1 p.2)) = (tallyAt (recvCell c p.1 p.2) () nHop : CellTallies nD τ sig Unit) := by
  unfold tallyAt; refine congrArg _ (Finsupp.ext fun u => ?_); cases u
  rw [Pipeline.launchCredit_owing, Finsupp.single_eq_same, Finset.sum_congr rfl fun d _ => owed_recv d c p.1 p.2, Finset.sum_ite_eq' Finset.univ (src c p.2.1) fun _ => nHop,
    if_pos (Finset.mem_univ _)]

/-- Receive semaphores of different hops or chunks are different. -/
theorem recvSem_inj : Function.Injective (fun p : Fin 3 × Ch => (SemLoc.dma (semOf (.recv p)) : SemLoc sig)) := fun p p' h =>
  Sum.inr.inj (Sum.inr.inj (Sum.inr.inj (semOf_inj (SemLoc.dma.inj h))))

/-- The launch's credits are what a device may wait for. -/
theorem creds (c : Dev nD) : (Pipeline.launchCred O₀ c : sProp 𝕄) ⊢ hopes c := by
  unfold Pipeline.launchCred hopes
  rw [bigSep_univ_at _ (SemLoc.reg barS), launch_bar]
  refine sep_mono_right ?_
  have hs : (Finset.univ.map ⟨_, recvSem_inj⟩ : Finset (SemLoc sig)) ⊆ Finset.univ.erase (SemLoc.reg barS) := by
    intro x hx
    obtain ⟨p, -, hp⟩ := Finset.mem_map.mp hx
    exact Finset.mem_erase.mpr ⟨fun h => absurd (hp.trans h) (fun h' => by cases h'), Finset.mem_univ _⟩
  refine (bigSep_subset hs).trans ?_
  rw [bigSep_map]
  exact bigSep_mono fun p _ => Entails.of_eq (congrArg cred (launch_recv c p))

end Cert.Gather

end
-- ==== Proof.Launch.lean ====
/- The run of the whole program from any memory: it ends, the argument is unchanged, the result holds the gathered
   array on every device, and every semaphore is back at zero. -/
module

public import proofs.«01_k».proof.Proof.Deal
public import proofs.«01_k».proof.Proof.StepsEq
public import Idealize.ShloMosaic.Lib.Pipeline.CollectiveSegs

@[expose] public section

noncomputable section

namespace Cert.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The body as the launch asks for it -/

/-- What the launch hands a device beside its buffers; -/
def start (c : Dev nD) : sProp 𝕄 := iprop(armed m c ∗ levAts L lv ∗ hopes c)
/-- a device's semaphores at zero; -/
def zeros (c : Dev nD) : sProp 𝕄 :=
  iprop(unscopedSems0 c ∗ Pipeline.ownSems0 (Ix := Unit) (Name := ℕ) (U := UU) (Lvl := ℕ) (Val := Elt F) (τ := τ) osem c)
/-- what the body starts from; -/
def Φ₀ (c : Dev nD) : sProp 𝕄 := iprop(start m c ∗ before m c)
/-- what it ends with. -/
def Φ₁ (c : Dev nD) : sProp 𝕄 := iprop(after m c ∗ zeros c)

/-- The grid's one point as the launch sees it: no window, and `Φ₀` becomes `Φ₁`. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- After its rounds a device's semaphores are back at zero. -/
theorem closed (K : Dev nD × Kc → ℕ) (c : Dev nD) : iprop(facts m K ∗ places c 1) ⊢ (|={Set.univ}=> zeros c : sProp 𝕄) := by
  have hz := Rounds.cells_close ER (rd (F := F) m) Finset.univ (fun k : Kc => kcell (c, k)) (fun k => K (c, k))
    (fun k _ => Set.mem_univ (K (c, k))) (fun _ _ h => h) (fun _ => 1) (fun k _ => duties_later m (kcell (c, k)))
  have hI (k : Kc) : iprop(facts m K ∗ atPos ER (kcell (c, k)) 1 ∅ 0)
      ⊢ iprop(cellInv ER (rd m) (K (c, k)) (kcell (c, k)) ∗ atPos ER (kcell (c, k)) 1 ∅ 0) := sep_mono_left (facts_inv m K (c, k))
  unfold zeros
  rw [sems0]
  refine BIBase.Entails.trans ?_ hz
  refine BIBase.Entails.trans ?_ (bigSep_with_persistent (S := Finset.univ) (R := facts m K) (fun k _ => hI k))
  unfold places
  rw [kcells (fun k => atPos ER (kcell (c, k)) 1 ∅ 0)]

/-- From `Φ₀`, owing what it owes, the body ends with `Φ₁`, owing nothing. -/
theorem wp_start (c : Dev nD) : iprop(Φ₀ m c ∗ Ow c (O₀ c)) ⊢ WP (F := F) c body fun _ => iprop(Φ₁ m c ∗ Ow c 0) := by
  refine BIBase.Entails.trans ?_ (wp_fupd _ _ _ _ _)
  unfold Φ₀ start armed records
  iintro ⟨⟨⟨⟨%K, ⟨#HI, #HR⟩, Hat, Htok⟩, #Hlev, Hh⟩, Hb⟩, HO⟩
  ihave #HF : facts m K $$ []
  · unfold facts
    isplitl; · iexact HI
    isplitl; · iexact HR
    iexact Hlev
  ihave Hw := (wp_body m K c) $$ [HO Hb Htok Hat Hh]
  · isplitr; · iexact HF
    isplitl [HO]; · iexact HO
    isplitl [Hb]; · iexact Hb
    isplitl [Htok]; · iexact Htok
    isplitl [Hat]; · iexact Hat
    iexact Hh
  iapply (WP_wand c) $$ Hw
  iintro %_ ⟨HO, Ha, Hat⟩
  imod (closed m K c) $$ [Hat] with Hz
  · isplitr; · iexact HF
    iexact Hat
  imodintro
  unfold Φ₁
  isplitr [HO]
  · isplitl [Ha]; · iexact Ha
    iexact Hz
  iexact HO

/-- The call has no window, so a conjunct for each is nothing. -/
theorem no_windows (Φ : Fin cfg0.W → sProp 𝕄) : bigSep Finset.univ Φ = iprop(emp) := by
  rw [show (Finset.univ : Finset (Fin cfg0.W)) = ∅ from rfl, bigSep_empty]; rfl

/-- The body that the launch runs is `body`. -/
theorem body_of : defs₀ (F := F) .tc cfg0.body (cfg0.bodyArgs t0_0 (cfg0.slots t0_0)) = body := (show _ = bodyAt0 t0_0 from rfl).trans (body_eq t0_0)

/-- Before the grid's one point `Φ₀` holds, -/
theorem Φ_start (c : Dev nD) : (dats m 0 c).Φ t0_0.castSucc = Φ₀ m c := rfl
/-- after it `Φ₁`. -/
theorem Φ_end (c : Dev nD) : (dats m 0 c).Φ t0_0.succ = Φ₁ m c := rfl

/-- The body does what the launch asks of it. -/
theorem body_obligation (c : Dev nD) : BodyObligation (dats (F := F) m 0 c) (defs₀ (F := F)) 𝒱₀ () Set.univ := fun t => by
  rw [fin_N0 t, no_windows, no_windows, body_of, Φ_start, Φ_end]
  unfold Dat.owesAt Pipeline.owesWithin
  iintro ⟨HΦ, ⟨%W, -, HO⟩, -⟩
  ihave Hw := (wp_start m c) $$ [HΦ HO]
  · isplitl [HΦ]; · iexact HΦ
    unfold Ow; iexists W; iexact HO
  iapply (WP_wand c) $$ Hw
  iintro %_ ⟨HΦ, HO⟩
  unfold Ow
  icases HO with ⟨%W', HO⟩
  isplitl [HΦ]; · iexact HΦ
  isplitl [HO]
  · iexists W'
    isplitr; · ipureintro; exact fun _ _ => Or.inl trivial
    iexact HO
  iempintro

/-! ## The launch's side conditions -/

/-- The argument and the result as the launch leaves them to the body; -/
def arrays (c : Dev nD) : sProp 𝕄 :=
  iprop(((c.tc : Thread nD τ).loc main_arg0 ↦{fullShare} X m c) ∗ ∃ f, (c.tc : Thread nD τ).loc main_v1 ↦{fullShare} f)
/-- and as the body leaves them. -/
def gathered (c : Dev nD) : sProp 𝕄 :=
  iprop(((c.tc : Thread nD τ).loc main_arg0 ↦{fullShare} X m c) ∗ ((c.tc : Thread nD τ).loc main_v1 ↦{fullShare} G m))

/-- What the launch deals a device makes its start and its two arrays, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ armed m c)
      ⊢ |={Set.univ}=> iprop((start m c ∗ arrays m c) ∗ emp) := by
  rw [Pipeline.unscopedRestP_none, unscopedRest0_eq]
  iintro ⟨⟨Hx, Ho⟩, Hlev, Hcr, -, HG⟩
  ihave Hh := (creds (F := F) c) $$ Hcr
  imodintro
  unfold start arrays
  isplitl
  · isplitl [HG Hh Hlev]
    · isplitl [HG]; · iexact HG
      isplitl [Hlev]; · iexact Hlev
      iexact Hh
    isplitl [Hx]; · iexact Hx
    iexists m ((c : Thread nD τ).loc main_v1); iexact Ho
  · iempintro

/-- which with the scratch buffers are `Φ₀`. -/
theorem Φ₀_intro (c : Dev nD) :
    iprop((start m c ∗ arrays m c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ arrays before
  iintro ⟨⟨Hs, Hx, Ho⟩, -, Hf, Hb⟩
  isplitl [Hs]; · iexact Hs
  isplitl [Hx]; · iexact Hx
  isplitl [Ho]; · iexact Ho
  isplitl [Hf]; · iexact Hf
  iexact Hb

/-- `Φ₁` gives the arrays as the body leaves them, the semaphores at zero and the scratch buffers back. -/
theorem Φ₁_exit (c : Dev nD) :
    (dats m 0 c).Φ (Fin.last cfg0.N) ⊢ iprop((gathered m c ∗ unscopedSems0 c) ∗ Pipeline.ownSems0 osem c ∗ Pipeline.scopedRest cfg0.spec c) := by
  rw [show (dats m 0 c).Φ (Fin.last cfg0.N) = Φ₁ m c from rfl, scopedRest0_eq]
  unfold Φ₁ gathered after zeros
  iintro ⟨⟨Hx, Ho, Hf, Hb⟩, Hu, Hos⟩
  isplitl [Hx Ho Hu]
  · isplitl [Hx Ho]
    · isplitl [Hx]; · iexact Hx
      iexact Ho
    iexact Hu
  isplitl [Hos]; · iexact Hos
  isplitl [Hf]; · iexact Hf
  iexact Hb

/-- What a final memory holds on device `c`. -/
def Ends (c : Dev nD) (s : MemSt nD τ sig (Elt F)) : Prop :=
  (s.mem ((c.tc : Thread nD τ).loc main_arg0) = X m c ∧ s.mem ((c.tc : Thread nD τ).loc main_v1) = G m)
    ∧ ∀ sm : SemLoc sig, sm.isScoped .tc = false → s.sem ((c.tc : Thread nD τ), sm) = 0

/-- What the arrays and semaphores are held at is what the final memory holds. -/
theorem read_back (c : Dev nD) (s' : Phys nD τ sig (Elt F)) :
    iprop((gathered m c ∗ unscopedSems0 c) ∗ emp ∗ SI s') ⊢ (|={Set.univ}=> iprop(⌜Ends m c s'.mem⌝ ∗ SI s') : sProp 𝕄) := by
  unfold gathered
  iintro ⟨⟨⟨Hx, Ho⟩, Hu⟩, -, HSI⟩
  icombine HSI Hx gives %hx
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro
    exact ⟨⟨funext fun i => hx i (Finset.mem_univ _), funext fun i => ho i (Finset.mem_univ _)⟩, hu⟩
  iexact HSI

/-! ## The run -/

/-- On four devices, at any float values, from any memory with every semaphore at zero: every weakly fair execution of
    the program ends, and then on every device the argument is unchanged and the result is the gathered array, and every
    semaphore is at zero. -/
theorem run_main : θ_run defs (onTc (τ := τ) (main (F := F))) ⟨m, fun _ => 0, ρ⟩ (fun r =>
    (∀ c : Dev nD, r.2.mem ((c.tc : Thread nD τ).loc main_arg0) = X m c ∧ r.2.mem ((c.tc : Thread nD τ).loc main_v1) = G m)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne)
    (hwaits := fun c => Pipeline.cellsWaits_intro cfgs (dats m) () 0 c fun w _ _ => w.elim0)
    (G := dealt m) (G' := armed m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ w => w.elim0) (hpf := fun _ k => k.elim0)
    (X := fun c => iprop(start m c ∗ arrays m c)) (Y := fun c => iprop(gathered m c ∗ unscopedSems0 c)) (Z := fun _ => iprop(emp))
    (hX := start_intro m ρ) (hin := Φ₀_intro m) (hout := Φ₁_exit m)
    (QY := Ends m) (hY := read_back m)
    (hQ := fun _ h hs => ⟨fun c => (h c).2.2.1, sem_eq_zero hs fun c => (h c).2.2.2⟩)

end Cert.Gather

end
-- ==== Proof.Value.lean ====
/- The gathered array is the truncation of the whole argument. -/
module

public import proofs.«01_k».proof.Proof.Launch
public import Idealize.ShloMosaic.Lib.Layout

@[expose] public section

noncomputable section

namespace Cert.Gather

open Idealize.ShloMosaic Idealize.ShloMosaic.TcCoe
open Idealize.SL.Sem
open Cert.KernelIdeal Cert.KernelIdeal.Gen

variable {F : FTy → Type} [FloatOps F]

variable (m : (ℓ : Loc nD τ sig) → Buf (Elt F) ℓ) (ρ : Dev nD → PrngReg)

/-- A row of the whole array is the row `inner` of the block of the device `home`. -/
theorem block_home (w : S32768x1024.Idx → F .f32) (x : S32768x1024.Idx) :
    (Layout.block ⟨2, ![8192, 1024]⟩ ⟨2, ![32768, 1024]⟩ 0 4 (home x) w) (inner x) = w x := by
  rw [Layout.block_apply]
  refine congrArg w (funext fun a => Fin.ext ?_)
  rw [Layout.Tiles.idx_val]
  match a with
  | ⟨0, _⟩ =>
    show (x 0).val / 8192 * 8192 + (x 0).val % 8192 = (x 0).val
    omega
  | ⟨1, _⟩ => rfl

/-- If every device's argument is its block of an array, the gathered array is that array's truncation. -/
theorem G_eq (w : S32768x1024.Idx → F .f32)
    (h : ∀ c : Dev nD, m ((c.tc : Thread nD τ).loc main_arg0) = Layout.block ⟨2, ![8192, 1024]⟩ ⟨2, ![32768, 1024]⟩ 0 4 c w) :
    G m = truncf .bf16 w bitsLt_bf16_f32 := funext fun x => by
  show FloatOps.truncf .bf16 bitsLt_bf16_f32 (X m (home x) (inner x)) = FloatOps.truncf .bf16 bitsLt_bf16_f32 (w x)
  rw [← block_home w x]
  exact congrArg _ (congrFun (h (home x)) (inner x))

/-- From blocks of an array on the four devices, the program ends with the array's truncation on each of them, the
    argument unchanged. -/
theorem run_gathers (w : S32768x1024.Idx → F .f32)
    (h : ∀ c : Dev nD, m ((c.tc : Thread nD τ).loc main_arg0) = Layout.block ⟨2, ![8192, 1024]⟩ ⟨2, ![32768, 1024]⟩ 0 4 c w) :
    θ_run defs (onTc (τ := τ) (main (F := F))) ⟨m, fun _ => 0, ρ⟩ fun r => ∀ c : Dev nD,
      r.2.mem ((c.tc : Thread nD τ).loc main_v1) = truncf .bf16 w bitsLt_bf16_f32
      ∧ r.2.mem ((c.tc : Thread nD τ).loc main_arg0) = m ((c.tc : Thread nD τ).loc main_arg0) :=
  (θ_run defs _ _).mono (fun _ hr c => ⟨(hr.1 c).2.trans (G_eq m w h), (hr.1 c).1⟩) (run_main m ρ)

/-- The program ends, its argument unchanged and its semaphores at zero. -/
theorem run_frame : θ_run defs (onTc (τ := τ) (main (F := F))) ⟨m, fun _ => 0, ρ⟩ fun r =>
    (∀ c : Dev nD, r.2.mem ((c.tc : Thread nD τ).loc main_arg0) = m ((c.tc : Thread nD τ).loc main_arg0)) ∧ r.2.sem = fun _ => 0 :=
  (θ_run defs _ _).mono (fun _ hr => ⟨fun c => (hr.1 c).1, hr.2⟩) (run_main m ρ)

end Cert.Gather

end
-- ==== Proof.lean ====
/- The bidirectional ring all-gather on four devices, each claim from one run of the program at any float values
   (`Cert.Gather.run_main`, `Cert.Gather.run_gathers`), and the one-operation reference's run. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The program at the hardware's floats ends, its argument unchanged, every semaphore at zero. -/
theorem frame_kernel : Cert.quiescent_Kernel := fun m ρ _ =>
  (θ_run Cert.KernelIdeal.defs _ _).mono (fun _ h => h) (Cert.Gather.run_frame (F := Bits) m ρ)

/-- So does the program at exact values. -/
theorem frame_kernelIdeal : Cert.quiescent_KernelIdeal := fun m ρ _ => Cert.Gather.run_frame (F := Ideal) m ρ

/-- The reference ends, its argument unchanged; it has no semaphore. -/
theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The same at the hardware's floats. -/
theorem frame_reference : Cert.quiescent_Reference := fun m ρ _ =>
  (θ_run Cert.Reference.defs _ _).mono (fun r h => ⟨fun c => (h c).2, sem_eq_zero_of_no_sems rfl r.2⟩)
    (Cert.Reference.Value.run (F := Bits) m ρ)

/-- At exact values every device ends with the reference's whole result. -/
theorem value_ideal : Cert.algebraic_KernelIdeal_ReferenceIdeal := fun m g m' g' _ h =>
  ⟨_, Cert.Gather.run_gathers (F := Ideal) m g _ h,
    (θ_run Cert.ReferenceIdeal.defs _ _).mono (fun _ hr => hr 0) (Cert.ReferenceIdeal.Value.run (F := Ideal) m' g')⟩

/-- At the hardware's floats every device ends with the reference's whole result, bit for bit. -/
theorem value_bits : Cert.bitexact_Kernel_Reference := fun m g m' g' _ h =>
  ⟨_, (θ_run Cert.KernelIdeal.defs _ _).mono (fun _ hr => hr) (Cert.Gather.run_gathers (F := Bits) m g _ h),
    (θ_run Cert.Reference.defs _ _).mono (fun _ hr => hr 0) (Cert.Reference.Value.run (F := Bits) m' g')⟩

/-- Everything claimed. -/
theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, value_ideal, value_bits⟩

end Cert.Proof

end
